-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usable [hPre_usable : Cert.Pre_usable.Facts] (m : (ℓ : Loc Cert.KernelIdeal.nD Cert.KernelIdeal.τ Cert.KernelIdeal.sig) → Buf (Elt Ideal) ℓ) : Prop :=
  ∀ c : Dev Cert.KernelIdeal.nD,
    (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usable [hPre_usable : Cert.Pre_usable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_usable [hKernelIdeal : Cert.KernelIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_usable [hReferenceIdeal : Cert.ReferenceIdeal.Facts] [hPre_usable : Cert.Pre_usable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_usable [hKernelIdeal : Cert.KernelIdeal.Facts] [hReferenceIdeal : Cert.ReferenceIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v143)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v143) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v549) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_usable : Cert.Pre_usable.Facts),
    quiescent_Kernel (hKernel := hKernel)
    ∧ quiescent_KernelIdeal (hKernelIdeal := hKernelIdeal)
    ∧ quiescent_KernelIdeal_pre_usable (hKernelIdeal := hKernelIdeal) (hPre_usable := hPre_usable)
    ∧ quiescent_ReferenceIdeal (hReferenceIdeal := hReferenceIdeal)
    ∧ quiescent_ReferenceIdeal_pre_usable (hReferenceIdeal := hReferenceIdeal) (hPre_usable := hPre_usable)
    ∧ preserves_Kernel_KernelIdeal
    ∧ algebraic_KernelIdeal_ReferenceIdeal_pre_usable (hKernelIdeal := hKernelIdeal) (hReferenceIdeal := hReferenceIdeal) (hPre_usable := hPre_usable)
-- ==== Pre_usable.lean ====
abbrev S16x1x22x1000 : Shape := ⟨4, ![16, 1, 22, 1000]⟩
abbrev S16x1x1x32 : Shape := ⟨4, ![16, 1, 1, 32]⟩
abbrev S16 : Shape := ⟨1, ![16]⟩
abbrev S16x32 : Shape := ⟨2, ![16, 32]⟩
abbrev S4x8 : Shape := ⟨2, ![4, 8]⟩
abbrev S32 : Shape := ⟨1, ![32]⟩
abbrev S32x32x1x16 : Shape := ⟨4, ![32, 32, 1, 16]⟩
abbrev S2x110 : Shape := ⟨2, ![2, 110]⟩
abbrev S_ : Shape := ⟨0, ![]⟩

class Facts : Prop where
  bcast_S_S2x110 : S_.BroadcastsInDim S2x110 (![] : Fin 0 → Fin S2x110.rank)
  reducesTo_S2x110_S_d0_1 : S2x110.ReducesTo [0, 1] S_
  h_S_ : 0 < S_.numel
  bcast_S_S16x1x22x1000 : S_.BroadcastsInDim S16x1x22x1000 (![] : Fin 0 → Fin S16x1x22x1000.rank)
  reducesTo_S16x1x22x1000_S_d0_1_2_3 : S16x1x22x1000.ReducesTo [0, 1, 2, 3] S_
  bcast_S_S16x1x1x32 : S_.BroadcastsInDim S16x1x1x32 (![] : Fin 0 → Fin S16x1x1x32.rank)
  reducesTo_S16x1x1x32_S_d0_1_2_3 : S16x1x1x32.ReducesTo [0, 1, 2, 3] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S4x8 : S_.BroadcastsInDim S4x8 (![] : Fin 0 → Fin S4x8.rank)
  reducesTo_S4x8_S_d0_1 : S4x8.ReducesTo [0, 1] S_
  bcast_S_S32 : S_.BroadcastsInDim S32 (![] : Fin 0 → Fin S32.rank)
  reducesTo_S32_S_d0 : S32.ReducesTo [0] S_
  bcast_S_S32x32x1x16 : S_.BroadcastsInDim S32x32x1x16 (![] : Fin 0 → Fin S32x32x1x16.rank)
  reducesTo_S32x32x1x16_S_d0_1_2_3 : S32x32x1x16.ReducesTo [0, 1, 2, 3] S_

variable [Facts]

def fn_part4 {F : FTy → Type} [FloatOps F] (main_v65 : IVec S_ 1) (main_v66 : FVec F S32 .f32) (main_v67 : FVec F S32 .f32) : IVec S_ 1 :=
  let main_v68 : IVec S32 1 := cmpf .olt main_v66 main_v67
  let main_c_26 : IVec S_ 1 := constantI S_ 1 1#1
  let main_v69 : IVec S_ 1 := (fun x v => Host.reduce IntOp.andi x v reducesTo_S32_S_d0 h_S_) main_v68 main_c_26
  let main_v70 : IVec S_ 1 := andi main_v65 main_v69
  main_v70

def fn_part3 {F : FTy → Type} [FloatOps F] (main_arg9 : FVec F S32 .f32) (main_arg10 : FVec F S32x32x1x16 .f32) (main_arg11 : FVec F S32 .f32) (main_arg12 : FVec F S32 .f32) (main_v50 : IVec S_ 1) : IVec S_ 1 :=
  let main_v51 : FVec F S32 .f32 := Host.absf main_arg9
  let main_cst_19 : FVec F S_ .f32 := constant S_ .f32 0x7F800000#32
  let main_v52 : FVec F S32 .f32 := broadcastInDim S32 ![] bcast_S_S32 main_cst_19
  let main_v53 : IVec S32 1 := cmpf .olt main_v51 main_v52
  let main_c_20 : IVec S_ 1 := constantI S_ 1 1#1
  let main_v54 : IVec S_ 1 := (fun x v => Host.reduce IntOp.andi x v reducesTo_S32_S_d0 h_S_) main_v53 main_c_20
  let main_v55 : IVec S_ 1 := andi main_v50 main_v54
  let main_v56 : FVec F S32x32x1x16 .f32 := Host.absf main_arg10
  let main_cst_21 : FVec F S_ .f32 := constant S_ .f32 0x7F800000#32
  let main_v57 : FVec F S32x32x1x16 .f32 := broadcastInDim S32x32x1x16 ![] bcast_S_S32x32x1x16 main_cst_21
  let main_v58 : IVec S32x32x1x16 1 := cmpf .olt main_v56 main_v57
  let main_c_22 : IVec S_ 1 := constantI S_ 1 1#1
  let main_v59 : IVec S_ 1 := (fun x v => Host.reduce IntOp.andi x v reducesTo_S32x32x1x16_S_d0_1_2_3 h_S_) main_v58 main_c_22
  let main_v60 : IVec S_ 1 := andi main_v55 main_v59
  let main_v61 : FVec F S32 .f32 := Host.absf main_arg11
  let main_cst_23 : FVec F S_ .f32 := constant S_ .f32 0x7F800000#32
  let main_v62 : FVec F S32 .f32 := broadcastInDim S32 ![] bcast_S_S32 main_cst_23
  let main_v63 : IVec S32 1 := cmpf .olt main_v61 main_v62
  let main_c_24 : IVec S_ 1 := constantI S_ 1 1#1
  let main_v64 : IVec S_ 1 := (fun x v => Host.reduce IntOp.andi x v reducesTo_S32_S_d0 h_S_) main_v63 main_c_24
  let main_v65 : IVec S_ 1 := andi main_v60 main_v64
  let main_v66 : FVec F S32 .f32 := Host.absf main_arg12
  let main_cst_25 : FVec F S_ .f32 := constant S_ .f32 0x7F800000#32
  let main_v67 : FVec F S32 .f32 := broadcastInDim S32 ![] bcast_S_S32 main_cst_25
  fn_part4 (F := F) main_v65 main_v66 main_v67

def fn_part2 {F : FTy → Type} [FloatOps F] (main_arg6 : FVec F S4x8 .f32) (main_arg7 : FVec F S32 .f32) (main_arg8 : FVec F S32 .f32) (main_arg9 : FVec F S32 .f32) (main_arg10 : FVec F S32x32x1x16 .f32) (main_arg11 : FVec F S32 .f32) (main_arg12 : FVec F S32 .f32) (main_v30 : IVec S_ 1) (main_v33 : IVec S4x8 1) : IVec S_ 1 :=
  let main_c_12 : IVec S_ 1 := constantI S_ 1 1#1
  let main_v34 : IVec S_ 1 := (fun x v => Host.reduce IntOp.andi x v reducesTo_S4x8_S_d0_1 h_S_) main_v33 main_c_12
  let main_v35 : IVec S_ 1 := andi main_v30 main_v34
  let main_v36 : FVec F S4x8 .f32 := Host.absf main_arg6
  let main_cst_13 : FVec F S_ .f32 := constant S_ .f32 0x7F800000#32
  let main_v37 : FVec F S4x8 .f32 := broadcastInDim S4x8 ![] bcast_S_S4x8 main_cst_13
  let main_v38 : IVec S4x8 1 := cmpf .olt main_v36 main_v37
  let main_c_14 : IVec S_ 1 := constantI S_ 1 1#1
  let main_v39 : IVec S_ 1 := (fun x v => Host.reduce IntOp.andi x v reducesTo_S4x8_S_d0_1 h_S_) main_v38 main_c_14
  let main_v40 : IVec S_ 1 := andi main_v35 main_v39
  let main_v41 : FVec F S32 .f32 := Host.absf main_arg7
  let main_cst_15 : FVec F S_ .f32 := constant S_ .f32 0x7F800000#32
  let main_v42 : FVec F S32 .f32 := broadcastInDim S32 ![] bcast_S_S32 main_cst_15
  let main_v43 : IVec S32 1 := cmpf .olt main_v41 main_v42
  let main_c_16 : IVec S_ 1 := constantI S_ 1 1#1
  let main_v44 : IVec S_ 1 := (fun x v => Host.reduce IntOp.andi x v reducesTo_S32_S_d0 h_S_) main_v43 main_c_16
  let main_v45 : IVec S_ 1 := andi main_v40 main_v44
  let main_v46 : FVec F S32 .f32 := Host.absf main_arg8
  let main_cst_17 : FVec F S_ .f32 := constant S_ .f32 0x7F800000#32
  let main_v47 : FVec F S32 .f32 := broadcastInDim S32 ![] bcast_S_S32 main_cst_17
  let main_v48 : IVec S32 1 := cmpf .olt main_v46 main_v47
  let main_c_18 : IVec S_ 1 := constantI S_ 1 1#1
  let main_v49 : IVec S_ 1 := (fun x v => Host.reduce IntOp.andi x v reducesTo_S32_S_d0 h_S_) main_v48 main_c_18
  let main_v50 : IVec S_ 1 := andi main_v45 main_v49
  fn_part3 (F := F) main_arg9 main_arg10 main_arg11 main_arg12 main_v50

def fn_part1 {F : FTy → Type} [FloatOps F] (main_arg3 : FVec F S16 .f32) (main_arg4 : FVec F S16x32 .f32) (main_arg5 : FVec F S4x8 .f32) (main_arg6 : FVec F S4x8 .f32) (main_arg7 : FVec F S32 .f32) (main_arg8 : FVec F S32 .f32) (main_arg9 : FVec F S32 .f32) (main_arg10 : FVec F S32x32x1x16 .f32) (main_arg11 : FVec F S32 .f32) (main_arg12 : FVec F S32 .f32) (main_v15 : IVec S_ 1) (main_v16 : FVec F S16 .f32) : IVec S_ 1 :=
  let main_cst_5 : FVec F S_ .f32 := constant S_ .f32 0x7F800000#32
  let main_v17 : FVec F S16 .f32 := broadcastInDim S16 ![] bcast_S_S16 main_cst_5
  let main_v18 : IVec S16 1 := cmpf .olt main_v16 main_v17
  let main_c_6 : IVec S_ 1 := constantI S_ 1 1#1
  let main_v19 : IVec S_ 1 := (fun x v => Host.reduce IntOp.andi x v reducesTo_S16_S_d0 h_S_) main_v18 main_c_6
  let main_v20 : IVec S_ 1 := andi main_v15 main_v19
  let main_v21 : FVec F S16 .f32 := Host.absf main_arg3
  let main_cst_7 : FVec F S_ .f32 := constant S_ .f32 0x7F800000#32
  let main_v22 : FVec F S16 .f32 := broadcastInDim S16 ![] bcast_S_S16 main_cst_7
  let main_v23 : IVec S16 1 := cmpf .olt main_v21 main_v22
  let main_c_8 : IVec S_ 1 := constantI S_ 1 1#1
  let main_v24 : IVec S_ 1 := (fun x v => Host.reduce IntOp.andi x v reducesTo_S16_S_d0 h_S_) main_v23 main_c_8
  let main_v25 : IVec S_ 1 := andi main_v20 main_v24
  let main_v26 : FVec F S16x32 .f32 := Host.absf main_arg4
  let main_cst_9 : FVec F S_ .f32 := constant S_ .f32 0x7F800000#32
  let main_v27 : FVec F S16x32 .f32 := broadcastInDim S16x32 ![] bcast_S_S16x32 main_cst_9
  let main_v28 : IVec S16x32 1 := cmpf .olt main_v26 main_v27
  let main_c_10 : IVec S_ 1 := constantI S_ 1 1#1
  let main_v29 : IVec S_ 1 := (fun x v => Host.reduce IntOp.andi x v reducesTo_S16x32_S_d0_1 h_S_) main_v28 main_c_10
  let main_v30 : IVec S_ 1 := andi main_v25 main_v29
  let main_v31 : FVec F S4x8 .f32 := Host.absf main_arg5
  let main_cst_11 : FVec F S_ .f32 := constant S_ .f32 0x7F800000#32
  let main_v32 : FVec F S4x8 .f32 := broadcastInDim S4x8 ![] bcast_S_S4x8 main_cst_11
  let main_v33 : IVec S4x8 1 := cmpf .olt main_v31 main_v32
  fn_part2 (F := F) main_arg6 main_arg7 main_arg8 main_arg9 main_arg10 main_arg11 main_arg12 main_v30 main_v33

def fn {F : FTy → Type} [FloatOps F] (main_arg0 : FVec F S16x1x22x1000 .f32) (main_arg1 : FVec F S16x1x1x32 .f32) (main_arg2 : FVec F S16 .f32) (main_arg3 : FVec F S16 .f32) (main_arg4 : FVec F S16x32 .f32) (main_arg5 : FVec F S4x8 .f32) (main_arg6 : FVec F S4x8 .f32) (main_arg7 : FVec F S32 .f32) (main_arg8 : FVec F S32 .f32) (main_arg9 : FVec F S32 .f32) (main_arg10 : FVec F S32x32x1x16 .f32) (main_arg11 : FVec F S32 .f32) (main_arg12 : FVec F S32 .f32) (main_arg13 : IVec S2x110 32) : IVec S_ 1 :=
  let main_c : IVec S_ 32 := constantI S_ 32 0#32
  let main_v0 : IVec S2x110 32 := broadcastInDim S2x110 ![] bcast_S_S2x110 main_c
  let main_v1 : IVec S2x110 1 := cmpi .sge main_arg13 main_v0
  let main_c_0 : IVec S_ 32 := constantI S_ 32 22#32
  let main_v2 : IVec S2x110 32 := broadcastInDim S2x110 ![] bcast_S_S2x110 main_c_0
  let main_v3 : IVec S2x110 1 := cmpi .slt main_arg13 main_v2
  let main_v4 : IVec S2x110 1 := andi main_v1 main_v3
  let main_c_1 : IVec S_ 1 := constantI S_ 1 1#1
  let main_v5 : IVec S_ 1 := (fun x v => Host.reduce IntOp.andi x v reducesTo_S2x110_S_d0_1 h_S_) main_v4 main_c_1
  let main_v6 : FVec F S16x1x22x1000 .f32 := Host.absf main_arg0
  let main_cst : FVec F S_ .f32 := constant S_ .f32 0x7F800000#32
  let main_v7 : FVec F S16x1x22x1000 .f32 := broadcastInDim S16x1x22x1000 ![] bcast_S_S16x1x22x1000 main_cst
  let main_v8 : IVec S16x1x22x1000 1 := cmpf .olt main_v6 main_v7
  let main_c_2 : IVec S_ 1 := constantI S_ 1 1#1
  let main_v9 : IVec S_ 1 := (fun x v => Host.reduce IntOp.andi x v reducesTo_S16x1x22x1000_S_d0_1_2_3 h_S_) main_v8 main_c_2
  let main_v10 : IVec S_ 1 := andi main_v5 main_v9
  let main_v11 : FVec F S16x1x1x32 .f32 := Host.absf main_arg1
  let main_cst_3 : FVec F S_ .f32 := constant S_ .f32 0x7F800000#32
  let main_v12 : FVec F S16x1x1x32 .f32 := broadcastInDim S16x1x1x32 ![] bcast_S_S16x1x1x32 main_cst_3
  let main_v13 : IVec S16x1x1x32 1 := cmpf .olt main_v11 main_v12
  let main_c_4 : IVec S_ 1 := constantI S_ 1 1#1
  let main_v14 : IVec S_ 1 := (fun x v => Host.reduce IntOp.andi x v reducesTo_S16x1x1x32_S_d0_1_2_3 h_S_) main_v13 main_c_4
  let main_v15 : IVec S_ 1 := andi main_v10 main_v14
  let main_v16 : FVec F S16 .f32 := Host.absf main_arg2
  fn_part1 (F := F) main_arg3 main_arg4 main_arg5 main_arg6 main_arg7 main_arg8 main_arg9 main_arg10 main_arg11 main_arg12 main_v15 main_v16
-- ==== Kernel.lean ====
abbrev S16x1x22x1000 : Shape := ⟨4, ![16, 1, 22, 1000]⟩
abbrev S16x1x1x32 : Shape := ⟨4, ![16, 1, 1, 32]⟩
abbrev S16 : Shape := ⟨1, ![16]⟩
abbrev S16x32 : Shape := ⟨2, ![16, 32]⟩
abbrev S4x8 : Shape := ⟨2, ![4, 8]⟩
abbrev S32 : Shape := ⟨1, ![32]⟩
abbrev S32x32x1x16 : Shape := ⟨4, ![32, 32, 1, 16]⟩
abbrev S2x110 : Shape := ⟨2, ![2, 110]⟩
abbrev S_ : Shape := ⟨0, ![]⟩
abbrev S16x1 : Shape := ⟨2, ![16, 1]⟩
abbrev S32x16 : Shape := ⟨2, ![32, 16]⟩
abbrev S32x32 : Shape := ⟨2, ![32, 32]⟩
abbrev S4x4 : Shape := ⟨2, ![4, 4]⟩
abbrev S4x8x1 : Shape := ⟨3, ![4, 8, 1]⟩
abbrev S4x1x4 : Shape := ⟨3, ![4, 1, 4]⟩
abbrev S4x8x4 : Shape := ⟨3, ![4, 8, 4]⟩
abbrev S32x4 : Shape := ⟨2, ![32, 4]⟩
abbrev S32x40 : Shape := ⟨2, ![32, 40]⟩
abbrev S4 : Shape := ⟨1, ![4]⟩
abbrev S40 : Shape := ⟨1, ![40]⟩
abbrev S40x22 : Shape := ⟨2, ![40, 22]⟩
abbrev S880 : Shape := ⟨1, ![880]⟩
abbrev S880x1 : Shape := ⟨2, ![880, 1]⟩
abbrev S22x22 : Shape := ⟨2, ![22, 22]⟩
abbrev S40x32 : Shape := ⟨2, ![40, 32]⟩
abbrev S40x1x32x1 : Shape := ⟨4, ![40, 1, 32, 1]⟩
abbrev S1x22x1x22 : Shape := ⟨4, ![1, 22, 1, 22]⟩
abbrev S40x22x32x22 : Shape := ⟨4, ![40, 22, 32, 22]⟩
abbrev S880x704 : Shape := ⟨2, ![880, 704]⟩
abbrev S32x1 : Shape := ⟨2, ![32, 1]⟩
abbrev S1x4 : Shape := ⟨2, ![1, 4]⟩
abbrev S32x1x4x1 : Shape := ⟨4, ![32, 1, 4, 1]⟩
abbrev S32x22x4x22 : Shape := ⟨4, ![32, 22, 4, 22]⟩
abbrev S704x88 : Shape := ⟨2, ![704, 88]⟩
abbrev S1x32 : Shape := ⟨2, ![1, 32]⟩
abbrev S32x32x1 : Shape := ⟨3, ![32, 32, 1]⟩
abbrev S32x32x22 : Shape := ⟨3, ![32, 32, 22]⟩
abbrev S32x704 : Shape := ⟨2, ![32, 704]⟩
abbrev S32x32x16 : Shape := ⟨3, ![32, 32, 16]⟩
abbrev S32x16x32 : Shape := ⟨3, ![32, 16, 32]⟩
abbrev S32x512 : Shape := ⟨2, ![32, 512]⟩
abbrev S2000 : Shape := ⟨1, ![2000]⟩
abbrev S2000x1 : Shape := ⟨2, ![2000, 1]⟩
abbrev S250 : Shape := ⟨1, ![250]⟩
abbrev S1x250 : Shape := ⟨2, ![1, 250]⟩
abbrev S2000x250 : Shape := ⟨2, ![2000, 250]⟩
abbrev S265 : Shape := ⟨1, ![265]⟩
abbrev S265x1 : Shape := ⟨2, ![265, 1]⟩
abbrev S62 : Shape := ⟨1, ![62]⟩
abbrev S1x62 : Shape := ⟨2, ![1, 62]⟩
abbrev S265x62 : Shape := ⟨2, ![265, 62]⟩
abbrev S8x128 : Shape := ⟨2, ![8, 128]⟩
abbrev S1 : Shape := ⟨1, ![1]⟩
abbrev S2 : Shape := ⟨1, ![2]⟩
abbrev S128x8 : Shape := ⟨2, ![128, 8]⟩
abbrev S110x2 : Shape := ⟨2, ![110, 2]⟩
abbrev S16x22x1000 : Shape := ⟨3, ![16, 22, 1000]⟩
abbrev S16x22x1032 : Shape := ⟨3, ![16, 22, 1032]⟩
abbrev S8x2x22x1032 : Shape := ⟨4, ![8, 2, 22, 1032]⟩
abbrev S8x22x2x1032 : Shape := ⟨4, ![8, 22, 2, 1032]⟩
abbrev S8x22x2064 : Shape := ⟨3, ![8, 22, 2064]⟩
abbrev S16x32x31 : Shape := ⟨3, ![16, 32, 31]⟩
abbrev S1x22x2064 : Shape := ⟨3, ![1, 22, 2064]⟩
abbrev S2x32x31 : Shape := ⟨3, ![2, 32, 31]⟩
abbrev S22x2064 : Shape := ⟨2, ![22, 2064]⟩
abbrev S22x1000 : Shape := ⟨2, ![22, 1000]⟩
abbrev S22x2000 : Shape := ⟨2, ![22, 2000]⟩
abbrev S704x2000 : Shape := ⟨2, ![704, 2000]⟩
abbrev S880x2000 : Shape := ⟨2, ![880, 2000]⟩
abbrev S88x2000 : Shape := ⟨2, ![88, 2000]⟩
abbrev S1x110 : Shape := ⟨2, ![1, 110]⟩
abbrev S110x1 : Shape := ⟨2, ![110, 1]⟩
abbrev S440x1 : Shape := ⟨2, ![440, 1]⟩
abbrev S1x440 : Shape := ⟨2, ![1, 440]⟩
abbrev S440x88 : Shape := ⟨2, ![440, 88]⟩
abbrev S88x440 : Shape := ⟨2, ![88, 440]⟩
abbrev S440x176 : Shape := ⟨2, ![440, 176]⟩
abbrev S176x2000 : Shape := ⟨2, ![176, 2000]⟩
abbrev S440x2000 : Shape := ⟨2, ![440, 2000]⟩
abbrev S1x2000 : Shape := ⟨2, ![1, 2000]⟩
abbrev S110x2000 : Shape := ⟨2, ![110, 2000]⟩
abbrev S32x2000 : Shape := ⟨2, ![32, 2000]⟩
abbrev S32x250 : Shape := ⟨2, ![32, 250]⟩
abbrev S32x7 : Shape := ⟨2, ![32, 7]⟩
abbrev S32x125 : Shape := ⟨2, ![32, 125]⟩
abbrev S32x15 : Shape := ⟨2, ![32, 15]⟩
abbrev S32x8 : Shape := ⟨2, ![32, 8]⟩
abbrev S32x280 : Shape := ⟨2, ![32, 280]⟩
abbrev S32x265 : Shape := ⟨2, ![32, 265]⟩
abbrev S512x265 : Shape := ⟨2, ![512, 265]⟩
abbrev S32x62 : Shape := ⟨2, ![32, 62]⟩
abbrev S32x31 : Shape := ⟨2, ![32, 31]⟩
abbrev S1x32x31 : Shape := ⟨3, ![1, 32, 31]⟩

abbrev nBuf : Space → Nat
  | .hbm => 264
  | .vmem => 17
  | .smem => 0
  | _ => 0

abbrev hbmTy0_0 (i : Nat) : BufTy := match i % 128 with
  | 0 => ⟨S16x1x22x1000, .f32⟩
  | 1 => ⟨S16x1x1x32, .f32⟩
  | 2 => ⟨S16, .f32⟩
  | 3 => ⟨S16, .f32⟩
  | 4 => ⟨S16x32, .f32⟩
  | 5 => ⟨S4x8, .f32⟩
  | 6 => ⟨S4x8, .f32⟩
  | 7 => ⟨S32, .f32⟩
  | 8 => ⟨S32, .f32⟩
  | 9 => ⟨S32, .f32⟩
  | 10 => ⟨S32x32x1x16, .f32⟩
  | 11 => ⟨S32, .f32⟩
  | 12 => ⟨S32, .f32⟩
  | 13 => ⟨S2x110, .i32⟩
  | 14 => ⟨S_, .f32⟩
  | 15 => ⟨S_, .f32⟩
  | 16 => ⟨S_, .f32⟩
  | 17 => ⟨S_, .f32⟩
  | 18 => ⟨S_, .f32⟩
  | 19 => ⟨S16, .f32⟩
  | 20 => ⟨S16, .f32⟩
  | 21 => ⟨S16x32, .f32⟩
  | 22 => ⟨S16x1, .f32⟩
  | 23 => ⟨S16x32, .f32⟩
  | 24 => ⟨S16x32, .f32⟩
  | 25 => ⟨S32x16, .f32⟩
  | 26 => ⟨S32x32, .f32⟩
  | 27 => ⟨S32, .f32⟩
  | 28 => ⟨S4x4, .i32⟩
  | 29 => ⟨S4x4, .i32⟩
  | 30 => ⟨S_, .i32⟩
  | 31 => ⟨S4x4, .i32⟩
  | 32 => ⟨S4x4, .i32⟩
  | 33 => ⟨S4x4, .i1⟩
  | 34 => ⟨S4x4, .f32⟩
  | 35 => ⟨S4x8x1, .f32⟩
  | 36 => ⟨S4x1x4, .f32⟩
  | 37 => ⟨S4x8x4, .f32⟩
  | 38 => ⟨S4x8x4, .f32⟩
  | 39 => ⟨S4x8x4, .f32⟩
  | 40 => ⟨S32x4, .f32⟩
  | 41 => ⟨S4x8x1, .f32⟩
  | 42 => ⟨S4x1x4, .f32⟩
  | 43 => ⟨S4x8x4, .f32⟩
  | 44 => ⟨S4x8x4, .f32⟩
  | 45 => ⟨S4x8x4, .f32⟩
  | 46 => ⟨S32x4, .f32⟩
  | 47 => ⟨S32x4, .f32⟩
  | 48 => ⟨S32x4, .f32⟩
  | 49 => ⟨S32x40, .f32⟩
  | 50 => ⟨S4, .f32⟩
  | 51 => ⟨S4, .f32⟩
  | 52 => ⟨S40, .f32⟩
  | 53 => ⟨S40x22, .f32⟩
  | 54 => ⟨S880, .f32⟩
  | 55 => ⟨S880x1, .f32⟩
  | 56 => ⟨S22x22, .i32⟩
  | 57 => ⟨S22x22, .i32⟩
  | 58 => ⟨S_, .i32⟩
  | 59 => ⟨S22x22, .i32⟩
  | 60 => ⟨S22x22, .i32⟩
  | 61 => ⟨S22x22, .i1⟩
  | 62 => ⟨S22x22, .f32⟩
  | 63 => ⟨S40x32, .f32⟩
  | 64 => ⟨S40x1x32x1, .f32⟩
  | 65 => ⟨S1x22x1x22, .f32⟩
  | 66 => ⟨S40x22x32x22, .f32⟩
  | 67 => ⟨S40x22x32x22, .f32⟩
  | 68 => ⟨S40x22x32x22, .f32⟩
  | 69 => ⟨S880x704, .f32⟩
  | 70 => ⟨S32, .i32⟩
  | 71 => ⟨S32x1, .i32⟩
  | 72 => ⟨S_, .i32⟩
  | 73 => ⟨S_, .i32⟩
  | 74 => ⟨S32x1, .i32⟩
  | 75 => ⟨S32x1, .i32⟩
  | 76 => ⟨S32x1, .i32⟩
  | 77 => ⟨S_, .i32⟩
  | 78 => ⟨S32x1, .i32⟩
  | 79 => ⟨S32x1, .i1⟩
  | 80 => ⟨S32x1, .i32⟩
  | 81 => ⟨S32x1, .i32⟩
  | 82 => ⟨S_, .i32⟩
  | 83 => ⟨S32x1, .i32⟩
  | 84 => ⟨S32x1, .i1⟩
  | 85 => ⟨S32x1, .i1⟩
  | 86 => ⟨S_, .i32⟩
  | 87 => ⟨S32x1, .i32⟩
  | 88 => ⟨S32x1, .i32⟩
  | 89 => ⟨S32x1, .i32⟩
  | 90 => ⟨S4, .i32⟩
  | 91 => ⟨S1x4, .i32⟩
  | 92 => ⟨S32x4, .i32⟩
  | 93 => ⟨S32x4, .i32⟩
  | 94 => ⟨S32x4, .i1⟩
  | 95 => ⟨S32x4, .f32⟩
  | 96 => ⟨S32x1x4x1, .f32⟩
  | 97 => ⟨S1x22x1x22, .f32⟩
  | 98 => ⟨S32x22x4x22, .f32⟩
  | 99 => ⟨S32x22x4x22, .f32⟩
  | 100 => ⟨S32x22x4x22, .f32⟩
  | 101 => ⟨S704x88, .f32⟩
  | 102 => ⟨S32, .i32⟩
  | 103 => ⟨S32x1, .i32⟩
  | 104 => ⟨S32, .i32⟩
  | 105 => ⟨S1x32, .i32⟩
  | 106 => ⟨S32x32, .i32⟩
  | 107 => ⟨S32x32, .i32⟩
  | 108 => ⟨S32x32, .i1⟩
  | 109 => ⟨S32x32, .f32⟩
  | 110 => ⟨S32x32x1, .f32⟩
  | 111 => ⟨S32x32x22, .f32⟩
  | 112 => ⟨S32x704, .f32⟩
  | 113 => ⟨S_, .f32⟩
  | 114 => ⟨S32, .f32⟩
  | 115 => ⟨S32, .f32⟩
  | 116 => ⟨S_, .f32⟩
  | 117 => ⟨S32, .f32⟩
  | 118 => ⟨S32, .f32⟩
  | 119 => ⟨S32x1, .f32⟩
  | 120 => ⟨S32, .f32⟩
  | 121 => ⟨S32, .f32⟩
  | 122 => ⟨S32x1, .f32⟩
  | 123 => ⟨S32x32x16, .f32⟩
  | 124 => ⟨S32x16x32, .f32⟩
  | 125 => ⟨S32x512, .f32⟩
  | 126 => ⟨S_, .f32⟩
  | 127 => ⟨S32, .f32⟩
  | _ => ⟨S16x1x22x1000, .f32⟩

abbrev hbmTy0_1 (i : Nat) : BufTy := match i % 128 with
  | 0 => ⟨S32, .f32⟩
  | 1 => ⟨S32x1, .f32⟩
  | 2 => ⟨S32x1, .f32⟩
  | 3 => ⟨S2000, .i32⟩
  | 4 => ⟨S2000x1, .i32⟩
  | 5 => ⟨S_, .i32⟩
  | 6 => ⟨S_, .i32⟩
  | 7 => ⟨S2000x1, .i32⟩
  | 8 => ⟨S2000x1, .i32⟩
  | 9 => ⟨S2000x1, .i32⟩
  | 10 => ⟨S_, .i32⟩
  | 11 => ⟨S2000x1, .i32⟩
  | 12 => ⟨S2000x1, .i1⟩
  | 13 => ⟨S2000x1, .i32⟩
  | 14 => ⟨S2000x1, .i32⟩
  | 15 => ⟨S_, .i32⟩
  | 16 => ⟨S2000x1, .i32⟩
  | 17 => ⟨S2000x1, .i1⟩
  | 18 => ⟨S2000x1, .i1⟩
  | 19 => ⟨S_, .i32⟩
  | 20 => ⟨S2000x1, .i32⟩
  | 21 => ⟨S2000x1, .i32⟩
  | 22 => ⟨S2000x1, .i32⟩
  | 23 => ⟨S250, .i32⟩
  | 24 => ⟨S1x250, .i32⟩
  | 25 => ⟨S2000x250, .i32⟩
  | 26 => ⟨S2000x250, .i32⟩
  | 27 => ⟨S2000x250, .i1⟩
  | 28 => ⟨S2000x250, .f32⟩
  | 29 => ⟨S_, .f32⟩
  | 30 => ⟨S2000x250, .f32⟩
  | 31 => ⟨S2000x250, .f32⟩
  | 32 => ⟨S265, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S265, .i32⟩
  | 40 => ⟨S265, .i32⟩
  | 41 => ⟨S_, .i32⟩
  | 42 => ⟨S265, .i32⟩
  | 43 => ⟨S265, .i1⟩
  | 44 => ⟨S_, .i32⟩
  | 45 => ⟨S265, .i32⟩
  | 46 => ⟨S265, .i1⟩
  | 47 => ⟨S_, .i32⟩
  | 48 => ⟨S_, .i1⟩
  | 49 => ⟨S265, .i1⟩
  | 50 => ⟨S265, .i1⟩
  | 51 => ⟨S265, .i1⟩
  | 52 => ⟨S265, .i32⟩
  | 53 => ⟨S265, .i32⟩
  | 54 => ⟨S265, .i32⟩
  | 55 => ⟨S_, .i32⟩
  | 56 => ⟨S_, .i32⟩
  | 57 => ⟨S265, .i32⟩
  | 58 => ⟨S265, .i32⟩
  | 59 => ⟨S265, .i32⟩
  | 60 => ⟨S_, .i32⟩
  | 61 => ⟨S265, .i32⟩
  | 62 => ⟨S265, .i1⟩
  | 63 => ⟨S265, .i32⟩
  | 64 => ⟨S265, .i32⟩
  | 65 => ⟨S_, .i32⟩
  | 66 => ⟨S265, .i32⟩
  | 67 => ⟨S265, .i1⟩
  | 68 => ⟨S265, .i1⟩
  | 69 => ⟨S_, .i32⟩
  | 70 => ⟨S265, .i32⟩
  | 71 => ⟨S265, .i32⟩
  | 72 => ⟨S265, .i32⟩
  | 73 => ⟨S_, .i32⟩
  | 74 => ⟨S265, .i32⟩
  | 75 => ⟨S265, .i32⟩
  | 76 => ⟨S_, .i32⟩
  | 77 => ⟨S_, .i32⟩
  | 78 => ⟨S265, .i32⟩
  | 79 => ⟨S265, .i32⟩
  | 80 => ⟨S265, .i32⟩
  | 81 => ⟨S_, .i32⟩
  | 82 => ⟨S265, .i32⟩
  | 83 => ⟨S265, .i1⟩
  | 84 => ⟨S265, .i32⟩
  | 85 => ⟨S265, .i32⟩
  | 86 => ⟨S_, .i32⟩
  | 87 => ⟨S265, .i32⟩
  | 88 => ⟨S265, .i1⟩
  | 89 => ⟨S265, .i1⟩
  | 90 => ⟨S_, .i32⟩
  | 91 => ⟨S265, .i32⟩
  | 92 => ⟨S265, .i32⟩
  | 93 => ⟨S265, .i32⟩
  | 94 => ⟨S265, .i32⟩
  | 95 => ⟨S265x1, .i32⟩
  | 96 => ⟨S62, .i32⟩
  | 97 => ⟨S1x62, .i32⟩
  | 98 => ⟨S265x62, .i32⟩
  | 99 => ⟨S265x62, .i32⟩
  | 100 => ⟨S265x62, .i1⟩
  | 101 => ⟨S_, .i32⟩
  | 102 => ⟨S265, .i32⟩
  | 103 => ⟨S265, .i1⟩
  | 104 => ⟨S265x1, .i1⟩
  | 105 => ⟨S265x62, .i1⟩
  | 106 => ⟨S265x62, .i1⟩
  | 107 => ⟨S265x62, .f32⟩
  | 108 => ⟨S_, .f32⟩
  | 109 => ⟨S265x62, .f32⟩
  | 110 => ⟨S265x62, .f32⟩
  | 111 => ⟨S_, .i32⟩
  | 112 => ⟨S8x128, .i32⟩
  | 113 => ⟨S_, .i32⟩
  | 114 => ⟨S1, .i32⟩
  | 115 => ⟨S_, .i32⟩
  | 116 => ⟨S1, .i32⟩
  | 117 => ⟨S2, .i32⟩
  | 118 => ⟨S8x128, .i32⟩
  | 119 => ⟨S_, .i32⟩
  | 120 => ⟨S128x8, .i32⟩
  | 121 => ⟨S110x2, .i32⟩
  | 122 => ⟨S_, .i32⟩
  | 123 => ⟨S1, .i32⟩
  | 124 => ⟨S_, .i32⟩
  | 125 => ⟨S1, .i32⟩
  | 126 => ⟨S2, .i32⟩
  | 127 => ⟨S128x8, .i32⟩
  | _ => ⟨S16x1x22x1000, .f32⟩

abbrev hbmTy0_2 (i : Nat) : BufTy := match i % 128 with
  | 0 => ⟨S16x22x1000, .f32⟩
  | 1 => ⟨S_, .i32⟩
  | 2 => ⟨S_, .f32⟩
  | 3 => ⟨S16x22x1032, .f32⟩
  | 4 => ⟨S8x2x22x1032, .f32⟩
  | 5 => ⟨S8x22x2x1032, .f32⟩
  | 6 => ⟨S8x22x2064, .f32⟩
  | 7 => ⟨S16x32x31, .f32⟩
  | _ => ⟨S16x1x22x1000, .f32⟩

abbrev hbmTy (i : Nat) : BufTy := match i / 128 with
  | 0 => hbmTy0_0 i
  | 1 => hbmTy0_1 i
  | 2 => hbmTy0_2 i
  | _ => ⟨S16x1x22x1000, .f32⟩

abbrev bufTy : (tb : Table) → Fin (tcTables nBuf tb) → BufTy
  | .hbm, ⟨i, _⟩ => hbmTy i
  | .local _ .vmem, ⟨0, _⟩ => ⟨S1x22x2064, .f32⟩
  | .local _ .vmem, ⟨1, _⟩ => ⟨S1x22x2064, .f32⟩
  | .local _ .vmem, ⟨2, _⟩ => ⟨S880x704, .f32⟩
  | .local _ .vmem, ⟨3, _⟩ => ⟨S880x1, .f32⟩
  | .local _ .vmem, ⟨4, _⟩ => ⟨S8x128, .i32⟩
  | .local _ .vmem, ⟨5, _⟩ => ⟨S128x8, .i32⟩
  | .local _ .vmem, ⟨6, _⟩ => ⟨S704x88, .f32⟩
  | .local _ .vmem, ⟨7, _⟩ => ⟨S32x704, .f32⟩
  | .local _ .vmem, ⟨8, _⟩ => ⟨S32x1, .f32⟩
  | .local _ .vmem, ⟨9, _⟩ => ⟨S32x1, .f32⟩
  | .local _ .vmem, ⟨10, _⟩ => ⟨S32x512, .f32⟩
  | .local _ .vmem, ⟨11, _⟩ => ⟨S32x1, .f32⟩
  | .local _ .vmem, ⟨12, _⟩ => ⟨S32x1, .f32⟩
  | .local _ .vmem, ⟨13, _⟩ => ⟨S2000x250, .f32⟩
  | .local _ .vmem, ⟨14, _⟩ => ⟨S265x62, .f32⟩
  | .local _ .vmem, ⟨15, _⟩ => ⟨S2x32x31, .f32⟩
  | .local _ .vmem, ⟨16, _⟩ => ⟨S2x32x31, .f32⟩
  | _, _ => ⟨S16x1x22x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_1 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_2 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_v5 : Ref sig .tc := ⟨.hbm, 78, rfl⟩
abbrev main_call0_v6 : Ref sig .tc := ⟨.hbm, 79, rfl⟩
abbrev main_call0_v7 : Ref sig .tc := ⟨.hbm, 80, rfl⟩
abbrev main_call0_v8 : Ref sig .tc := ⟨.hbm, 81, rfl⟩
abbrev main_call0_c : Ref sig .tc := ⟨.hbm, 82, rfl⟩
abbrev main_call0_v9 : Ref sig .tc := ⟨.hbm, 83, rfl⟩
abbrev main_call0_v10 : Ref sig .tc := ⟨.hbm, 84, rfl⟩
abbrev main_call0_v11 : Ref sig .tc := ⟨.hbm, 85, rfl⟩
abbrev main_call0_c_0 : Ref sig .tc := ⟨.hbm, 86, rfl⟩
abbrev main_call0_v12 : Ref sig .tc := ⟨.hbm, 87, rfl⟩
abbrev main_call0_v13 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_3 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_c_4 : Ref sig .tc := ⟨.hbm, 133, rfl⟩
abbrev main_call1_v0 : Ref sig .tc := ⟨.hbm, 134, rfl⟩
abbrev main_call1_v1 : Ref sig .tc := ⟨.hbm, 135, rfl⟩
abbrev main_call1_v2 : Ref sig .tc := ⟨.hbm, 136, rfl⟩
abbrev main_call1_v3 : Ref sig .tc := ⟨.hbm, 137, rfl⟩
abbrev main_call1_v4 : Ref sig .tc := ⟨.hbm, 138, rfl⟩
abbrev main_call1_v5 : Ref sig .tc := ⟨.hbm, 139, rfl⟩
abbrev main_call1_v6 : Ref sig .tc := ⟨.hbm, 140, rfl⟩
abbrev main_call1_v7 : Ref sig .tc := ⟨.hbm, 141, rfl⟩
abbrev main_call1_v8 : Ref sig .tc := ⟨.hbm, 142, rfl⟩
abbrev main_call1_c : Ref sig .tc := ⟨.hbm, 143, rfl⟩
abbrev main_call1_v9 : Ref sig .tc := ⟨.hbm, 144, rfl⟩
abbrev main_call1_v10 : Ref sig .tc := ⟨.hbm, 145, rfl⟩
abbrev main_call1_v11 : Ref sig .tc := ⟨.hbm, 146, rfl⟩
abbrev main_call1_c_0 : Ref sig .tc := ⟨.hbm, 147, rfl⟩
abbrev main_call1_v12 : Ref sig .tc := ⟨.hbm, 148, rfl⟩
abbrev main_call1_v13 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_cst_5 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_c_6 : Ref sig .tc := ⟨.hbm, 161, rfl⟩
abbrev main_call2_v0 : Ref sig .tc := ⟨.hbm, 162, rfl⟩
abbrev main_call2_c : Ref sig .tc := ⟨.hbm, 163, rfl⟩
abbrev main_call2_v1 : Ref sig .tc := ⟨.hbm, 164, rfl⟩
abbrev main_call2_c_0 : Ref sig .tc := ⟨.hbm, 165, rfl⟩
abbrev main_call2_v2 : Ref sig .tc := ⟨.hbm, 166, rfl⟩
abbrev main_call2_v3 : Ref sig .tc := ⟨.hbm, 167, rfl⟩
abbrev main_call2_v4 : Ref sig .tc := ⟨.hbm, 168, rfl⟩
abbrev main_call2_c_1 : Ref sig .tc := ⟨.hbm, 169, rfl⟩
abbrev main_call2_v5 : Ref sig .tc := ⟨.hbm, 170, rfl⟩
abbrev main_call2_v6 : Ref sig .tc := ⟨.hbm, 171, rfl⟩
abbrev main_call2_c_2 : Ref sig .tc := ⟨.hbm, 172, rfl⟩
abbrev main_call2_v7 : Ref sig .tc := ⟨.hbm, 173, rfl⟩
abbrev main_call2_v8 : Ref sig .tc := ⟨.hbm, 174, rfl⟩
abbrev main_call2_c_3 : Ref sig .tc := ⟨.hbm, 175, rfl⟩
abbrev main_call2_v9 : Ref sig .tc := ⟨.hbm, 176, rfl⟩
abbrev main_call2_v10 : Ref sig .tc := ⟨.hbm, 177, rfl⟩
abbrev main_call2_v11 : Ref sig .tc := ⟨.hbm, 178, rfl⟩
abbrev main_call2_v12 : Ref sig .tc := ⟨.hbm, 179, rfl⟩
abbrev main_call2_v13 : Ref sig .tc := ⟨.hbm, 180, rfl⟩
abbrev main_call2_v14 : Ref sig .tc := ⟨.hbm, 181, rfl⟩
abbrev main_v107 : Ref sig .tc := ⟨.hbm, 182, rfl⟩
abbrev main_c_7 : Ref sig .tc := ⟨.hbm, 183, rfl⟩
abbrev main_call3_v0 : Ref sig .tc := ⟨.hbm, 184, rfl⟩
abbrev main_call3_v1 : Ref sig .tc := ⟨.hbm, 185, rfl⟩
abbrev main_call3_v2 : Ref sig .tc := ⟨.hbm, 186, rfl⟩
abbrev main_call3_v3 : Ref sig .tc := ⟨.hbm, 187, rfl⟩
abbrev main_call3_v4 : Ref sig .tc := ⟨.hbm, 188, rfl⟩
abbrev main_call3_v5 : Ref sig .tc := ⟨.hbm, 189, rfl⟩
abbrev main_call3_v6 : Ref sig .tc := ⟨.hbm, 190, rfl⟩
abbrev main_call3_v7 : Ref sig .tc := ⟨.hbm, 191, rfl⟩
abbrev main_call3_v8 : Ref sig .tc := ⟨.hbm, 192, rfl⟩
abbrev main_call3_c : Ref sig .tc := ⟨.hbm, 193, rfl⟩
abbrev main_call3_v9 : Ref sig .tc := ⟨.hbm, 194, rfl⟩
abbrev main_call3_v10 : Ref sig .tc := ⟨.hbm, 195, rfl⟩
abbrev main_call3_v11 : Ref sig .tc := ⟨.hbm, 196, rfl⟩
abbrev main_call3_c_0 : Ref sig .tc := ⟨.hbm, 197, rfl⟩
abbrev main_call3_v12 : Ref sig .tc := ⟨.hbm, 198, rfl⟩
abbrev main_call3_v13 : Ref sig .tc := ⟨.hbm, 199, rfl⟩
abbrev main_v108 : Ref sig .tc := ⟨.hbm, 200, rfl⟩
abbrev main_c_8 : Ref sig .tc := ⟨.hbm, 201, rfl⟩
abbrev main_v109 : Ref sig .tc := ⟨.hbm, 202, rfl⟩
abbrev main_v110 : Ref sig .tc := ⟨.hbm, 203, rfl⟩
abbrev main_c_9 : Ref sig .tc := ⟨.hbm, 204, rfl⟩
abbrev main_call4_v0 : Ref sig .tc := ⟨.hbm, 205, rfl⟩
abbrev main_call4_v1 : Ref sig .tc := ⟨.hbm, 206, rfl⟩
abbrev main_call4_v2 : Ref sig .tc := ⟨.hbm, 207, rfl⟩
abbrev main_call4_v3 : Ref sig .tc := ⟨.hbm, 208, rfl⟩
abbrev main_call4_v4 : Ref sig .tc := ⟨.hbm, 209, rfl⟩
abbrev main_call4_v5 : Ref sig .tc := ⟨.hbm, 210, rfl⟩
abbrev main_call4_v6 : Ref sig .tc := ⟨.hbm, 211, rfl⟩
abbrev main_call4_v7 : Ref sig .tc := ⟨.hbm, 212, rfl⟩
abbrev main_call4_v8 : Ref sig .tc := ⟨.hbm, 213, rfl⟩
abbrev main_call4_c : Ref sig .tc := ⟨.hbm, 214, rfl⟩
abbrev main_call4_v9 : Ref sig .tc := ⟨.hbm, 215, rfl⟩
abbrev main_call4_v10 : Ref sig .tc := ⟨.hbm, 216, rfl⟩
abbrev main_call4_v11 : Ref sig .tc := ⟨.hbm, 217, rfl⟩
abbrev main_call4_c_0 : Ref sig .tc := ⟨.hbm, 218, rfl⟩
abbrev main_call4_v12 : Ref sig .tc := ⟨.hbm, 219, rfl⟩
abbrev main_call4_v13 : Ref sig .tc := ⟨.hbm, 220, rfl⟩
abbrev main_v111 : Ref sig .tc := ⟨.hbm, 221, rfl⟩
abbrev main_v112 : Ref sig .tc := ⟨.hbm, 222, rfl⟩
abbrev main_v113 : Ref sig .tc := ⟨.hbm, 223, rfl⟩
abbrev main_v114 : Ref sig .tc := ⟨.hbm, 224, rfl⟩
abbrev main_v115 : Ref sig .tc := ⟨.hbm, 225, rfl⟩
abbrev main_v116 : Ref sig .tc := ⟨.hbm, 226, rfl⟩
abbrev main_v117 : Ref sig .tc := ⟨.hbm, 227, rfl⟩
abbrev main_v118 : Ref sig .tc := ⟨.hbm, 228, rfl⟩
abbrev main_c_10 : Ref sig .tc := ⟨.hbm, 229, rfl⟩
abbrev main_v119 : Ref sig .tc := ⟨.hbm, 230, rfl⟩
abbrev main_v120 : Ref sig .tc := ⟨.hbm, 231, rfl⟩
abbrev main_v121 : Ref sig .tc := ⟨.hbm, 232, rfl⟩
abbrev main_v122 : Ref sig .tc := ⟨.hbm, 233, rfl⟩
abbrev main_v123 : Ref sig .tc := ⟨.hbm, 234, rfl⟩
abbrev main_v124 : Ref sig .tc := ⟨.hbm, 235, rfl⟩
abbrev main_cst_11 : Ref sig .tc := ⟨.hbm, 236, rfl⟩
abbrev main_v125 : Ref sig .tc := ⟨.hbm, 237, rfl⟩
abbrev main_v126 : Ref sig .tc := ⟨.hbm, 238, rfl⟩
abbrev main_c_12 : Ref sig .tc := ⟨.hbm, 239, rfl⟩
abbrev main_v127 : Ref sig .tc := ⟨.hbm, 240, rfl⟩
abbrev main_c_13 : Ref sig .tc := ⟨.hbm, 241, rfl⟩
abbrev main_v128 : Ref sig .tc := ⟨.hbm, 242, rfl⟩
abbrev main_c_14 : Ref sig .tc := ⟨.hbm, 243, rfl⟩
abbrev main_v129 : Ref sig .tc := ⟨.hbm, 244, rfl⟩
abbrev main_v130 : Ref sig .tc := ⟨.hbm, 245, rfl⟩
abbrev main_v131 : Ref sig .tc := ⟨.hbm, 246, rfl⟩
abbrev main_c_15 : Ref sig .tc := ⟨.hbm, 247, rfl⟩
abbrev main_v132 : Ref sig .tc := ⟨.hbm, 248, rfl⟩
abbrev main_v133 : Ref sig .tc := ⟨.hbm, 249, rfl⟩
abbrev main_c_16 : Ref sig .tc := ⟨.hbm, 250, rfl⟩
abbrev main_v134 : Ref sig .tc := ⟨.hbm, 251, rfl⟩
abbrev main_c_17 : Ref sig .tc := ⟨.hbm, 252, rfl⟩
abbrev main_v135 : Ref sig .tc := ⟨.hbm, 253, rfl⟩
abbrev main_v136 : Ref sig .tc := ⟨.hbm, 254, rfl⟩
abbrev main_v137 : Ref sig .tc := ⟨.hbm, 255, rfl⟩
abbrev main_v138 : Ref sig .tc := ⟨.hbm, 256, rfl⟩
abbrev main_c_18 : Ref sig .tc := ⟨.hbm, 257, rfl⟩
abbrev main_call5_v0 : Ref sig .tc := ⟨.hbm, 258, rfl⟩
abbrev main_v139 : Ref sig .tc := ⟨.hbm, 259, rfl⟩
abbrev main_v140 : Ref sig .tc := ⟨.hbm, 260, rfl⟩
abbrev main_v141 : Ref sig .tc := ⟨.hbm, 261, rfl⟩
abbrev main_v142 : Ref sig .tc := ⟨.hbm, 262, rfl⟩
abbrev main_v143 : Ref sig .tc := ⟨.hbm, 263, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x22x2064 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S880x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S880x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S704x88 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2000x250 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S265x62 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2x32x31 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S16x1x22x1000 : Shape := ⟨4, ![16, 1, 22, 1000]⟩
abbrev S16x1x1x32 : Shape := ⟨4, ![16, 1, 1, 32]⟩
abbrev S16 : Shape := ⟨1, ![16]⟩
abbrev S16x32 : Shape := ⟨2, ![16, 32]⟩
abbrev S4x8 : Shape := ⟨2, ![4, 8]⟩
abbrev S32 : Shape := ⟨1, ![32]⟩
abbrev S32x32x1x16 : Shape := ⟨4, ![32, 32, 1, 16]⟩
abbrev S2x110 : Shape := ⟨2, ![2, 110]⟩
abbrev S1x110 : Shape := ⟨2, ![1, 110]⟩
abbrev S110 : Shape := ⟨1, ![110]⟩
abbrev S16x22x1000 : Shape := ⟨3, ![16, 22, 1000]⟩
abbrev S_ : Shape := ⟨0, ![]⟩
abbrev S16x22x1031 : Shape := ⟨3, ![16, 22, 1031]⟩
abbrev S16x1x1x1 : Shape := ⟨4, ![16, 1, 1, 1]⟩
abbrev S1x16x1x1 : Shape := ⟨4, ![1, 16, 1, 1]⟩
abbrev S16x16x22x1000 : Shape := ⟨4, ![16, 16, 22, 1000]⟩
abbrev S22x16x1000x16 : Shape := ⟨4, ![22, 16, 1000, 16]⟩
abbrev S22x16x1000x32 : Shape := ⟨4, ![22, 16, 1000, 32]⟩
abbrev S22x16x1000x4x8 : Shape := ⟨5, ![22, 16, 1000, 4, 8]⟩
abbrev S1x1x1x4x8 : Shape := ⟨5, ![1, 1, 1, 4, 8]⟩
abbrev S22x16x1000x4 : Shape := ⟨4, ![22, 16, 1000, 4]⟩
abbrev S110x1 : Shape := ⟨2, ![110, 1]⟩
abbrev S110x16x1000x4 : Shape := ⟨4, ![110, 16, 1000, 4]⟩
abbrev S22 : Shape := ⟨1, ![22]⟩
abbrev S22x1 : Shape := ⟨2, ![22, 1]⟩
abbrev S22x110 : Shape := ⟨2, ![22, 110]⟩
abbrev S22x110x1x1x1 : Shape := ⟨5, ![22, 110, 1, 1, 1]⟩
abbrev S1x110x16x1000x4 : Shape := ⟨5, ![1, 110, 16, 1000, 4]⟩
abbrev S22x110x16x1000x4 : Shape := ⟨5, ![22, 110, 16, 1000, 4]⟩
abbrev S16x1000x4 : Shape := ⟨3, ![16, 1000, 4]⟩
abbrev S1x16x1000x4 : Shape := ⟨4, ![1, 16, 1000, 4]⟩
abbrev S110x16x1000x4x8 : Shape := ⟨5, ![110, 16, 1000, 4, 8]⟩
abbrev S110x16x1000x4x1 : Shape := ⟨5, ![110, 16, 1000, 4, 1]⟩
abbrev S1x1x1x32 : Shape := ⟨4, ![1, 1, 1, 32]⟩
abbrev S16x1000x32 : Shape := ⟨3, ![16, 1000, 32]⟩
abbrev S16x32x1000 : Shape := ⟨3, ![16, 32, 1000]⟩
abbrev S1x32x1 : Shape := ⟨3, ![1, 32, 1]⟩
abbrev S16x32x125x8 : Shape := ⟨4, ![16, 32, 125, 8]⟩
abbrev S16x32x125 : Shape := ⟨3, ![16, 32, 125]⟩
abbrev S16x32x140 : Shape := ⟨3, ![16, 32, 140]⟩
abbrev S32x32x1x1 : Shape := ⟨4, ![32, 32, 1, 1]⟩
abbrev S32x32 : Shape := ⟨2, ![32, 32]⟩
abbrev S16x125x32 : Shape := ⟨3, ![16, 125, 32]⟩
abbrev S16x32x124 : Shape := ⟨3, ![16, 32, 124]⟩
abbrev S16x32x31x4 : Shape := ⟨4, ![16, 32, 31, 4]⟩
abbrev S16x32x31 : Shape := ⟨3, ![16, 32, 31]⟩

abbrev nBuf : Space → Nat
  | .hbm => 618
  | .vmem => 0
  | .smem => 0
  | _ => 0

abbrev hbmTy0_0 (i : Nat) : BufTy := match i % 128 with
  | 0 => ⟨S16x1x22x1000, .f32⟩
  | 1 => ⟨S16x1x1x32, .f32⟩
  | 2 => ⟨S16, .f32⟩
  | 3 => ⟨S16, .f32⟩
  | 4 => ⟨S16x32, .f32⟩
  | 5 => ⟨S4x8, .f32⟩
  | 6 => ⟨S4x8, .f32⟩
  | 7 => ⟨S32, .f32⟩
  | 8 => ⟨S32, .f32⟩
  | 9 => ⟨S32, .f32⟩
  | 10 => ⟨S32x32x1x16, .f32⟩
  | 11 => ⟨S32, .f32⟩
  | 12 => ⟨S32, .f32⟩
  | 13 => ⟨S2x110, .i32⟩
  | 14 => ⟨S1x110, .i32⟩
  | 15 => ⟨S110, .i32⟩
  | 16 => ⟨S1x110, .i32⟩
  | 17 => ⟨S110, .i32⟩
  | 18 => ⟨S16x22x1000, .f32⟩
  | 19 => ⟨S_, .i32⟩
  | 20 => ⟨S_, .f32⟩
  | 21 => ⟨S16x22x1031, .f32⟩
  | 22 => ⟨S16x22x1000, .f32⟩
  | 23 => ⟨S16x1x22x1000, .f32⟩
  | 24 => ⟨S16x1x1x1, .f32⟩
  | 25 => ⟨S16, .f32⟩
  | 26 => ⟨S1x16x1x1, .f32⟩
  | 27 => ⟨S16x16x22x1000, .f32⟩
  | 28 => ⟨S16x16x22x1000, .f32⟩
  | 29 => ⟨S16x16x22x1000, .f32⟩
  | 30 => ⟨S_, .f32⟩
  | 31 => ⟨S16x16x22x1000, .f32⟩
  | 32 => ⟨S16x16x22x1000, .f32⟩
  | 33 => ⟨S16x22x1000, .f32⟩
  | 34 => ⟨S16x1x22x1000, .f32⟩
  | 35 => ⟨S16x1x1x1, .f32⟩
  | 36 => ⟨S16, .f32⟩
  | 37 => ⟨S1x16x1x1, .f32⟩
  | 38 => ⟨S16x16x22x1000, .f32⟩
  | 39 => ⟨S16x16x22x1000, .f32⟩
  | 40 => ⟨S16x16x22x1000, .f32⟩
  | 41 => ⟨S16x16x22x1000, .f32⟩
  | 42 => ⟨S16x22x1000, .f32⟩
  | 43 => ⟨S16x1x22x1000, .f32⟩
  | 44 => ⟨S16x1x1x1, .f32⟩
  | 45 => ⟨S16, .f32⟩
  | 46 => ⟨S1x16x1x1, .f32⟩
  | 47 => ⟨S16x16x22x1000, .f32⟩
  | 48 => ⟨S16x16x22x1000, .f32⟩
  | 49 => ⟨S16x16x22x1000, .f32⟩
  | 50 => ⟨S16x16x22x1000, .f32⟩
  | 51 => ⟨S16x22x1000, .f32⟩
  | 52 => ⟨S16x1x22x1000, .f32⟩
  | 53 => ⟨S16x1x1x1, .f32⟩
  | 54 => ⟨S16, .f32⟩
  | 55 => ⟨S1x16x1x1, .f32⟩
  | 56 => ⟨S16x16x22x1000, .f32⟩
  | 57 => ⟨S16x16x22x1000, .f32⟩
  | 58 => ⟨S16x16x22x1000, .f32⟩
  | 59 => ⟨S16x16x22x1000, .f32⟩
  | 60 => ⟨S16x22x1000, .f32⟩
  | 61 => ⟨S16x1x22x1000, .f32⟩
  | 62 => ⟨S16x1x1x1, .f32⟩
  | 63 => ⟨S16, .f32⟩
  | 64 => ⟨S1x16x1x1, .f32⟩
  | 65 => ⟨S16x16x22x1000, .f32⟩
  | 66 => ⟨S16x16x22x1000, .f32⟩
  | 67 => ⟨S16x16x22x1000, .f32⟩
  | 68 => ⟨S16x16x22x1000, .f32⟩
  | 69 => ⟨S16x22x1000, .f32⟩
  | 70 => ⟨S16x1x22x1000, .f32⟩
  | 71 => ⟨S16x1x1x1, .f32⟩
  | 72 => ⟨S16, .f32⟩
  | 73 => ⟨S1x16x1x1, .f32⟩
  | 74 => ⟨S16x16x22x1000, .f32⟩
  | 75 => ⟨S16x16x22x1000, .f32⟩
  | 76 => ⟨S16x16x22x1000, .f32⟩
  | 77 => ⟨S16x16x22x1000, .f32⟩
  | 78 => ⟨S16x22x1000, .f32⟩
  | 79 => ⟨S16x1x22x1000, .f32⟩
  | 80 => ⟨S16x1x1x1, .f32⟩
  | 81 => ⟨S16, .f32⟩
  | 82 => ⟨S1x16x1x1, .f32⟩
  | 83 => ⟨S16x16x22x1000, .f32⟩
  | 84 => ⟨S16x16x22x1000, .f32⟩
  | 85 => ⟨S16x16x22x1000, .f32⟩
  | 86 => ⟨S16x16x22x1000, .f32⟩
  | 87 => ⟨S16x22x1000, .f32⟩
  | 88 => ⟨S16x1x22x1000, .f32⟩
  | 89 => ⟨S16x1x1x1, .f32⟩
  | 90 => ⟨S16, .f32⟩
  | 91 => ⟨S1x16x1x1, .f32⟩
  | 92 => ⟨S16x16x22x1000, .f32⟩
  | 93 => ⟨S16x16x22x1000, .f32⟩
  | 94 => ⟨S16x16x22x1000, .f32⟩
  | 95 => ⟨S16x16x22x1000, .f32⟩
  | 96 => ⟨S16x22x1000, .f32⟩
  | 97 => ⟨S16x1x22x1000, .f32⟩
  | 98 => ⟨S16x1x1x1, .f32⟩
  | 99 => ⟨S16, .f32⟩
  | 100 => ⟨S1x16x1x1, .f32⟩
  | 101 => ⟨S16x16x22x1000, .f32⟩
  | 102 => ⟨S16x16x22x1000, .f32⟩
  | 103 => ⟨S16x16x22x1000, .f32⟩
  | 104 => ⟨S16x16x22x1000, .f32⟩
  | 105 => ⟨S16x22x1000, .f32⟩
  | 106 => ⟨S16x1x22x1000, .f32⟩
  | 107 => ⟨S16x1x1x1, .f32⟩
  | 108 => ⟨S16, .f32⟩
  | 109 => ⟨S1x16x1x1, .f32⟩
  | 110 => ⟨S16x16x22x1000, .f32⟩
  | 111 => ⟨S16x16x22x1000, .f32⟩
  | 112 => ⟨S16x16x22x1000, .f32⟩
  | 113 => ⟨S16x16x22x1000, .f32⟩
  | 114 => ⟨S16x22x1000, .f32⟩
  | 115 => ⟨S16x1x22x1000, .f32⟩
  | 116 => ⟨S16x1x1x1, .f32⟩
  | 117 => ⟨S16, .f32⟩
  | 118 => ⟨S1x16x1x1, .f32⟩
  | 119 => ⟨S16x16x22x1000, .f32⟩
  | 120 => ⟨S16x16x22x1000, .f32⟩
  | 121 => ⟨S16x16x22x1000, .f32⟩
  | 122 => ⟨S16x16x22x1000, .f32⟩
  | 123 => ⟨S16x22x1000, .f32⟩
  | 124 => ⟨S16x1x22x1000, .f32⟩
  | 125 => ⟨S16x1x1x1, .f32⟩
  | 126 => ⟨S16, .f32⟩
  | 127 => ⟨S1x16x1x1, .f32⟩
  | _ => ⟨S16x1x22x1000, .f32⟩

abbrev hbmTy0_1 (i : Nat) : BufTy := match i % 128 with
  | 0 => ⟨S16x16x22x1000, .f32⟩
  | 1 => ⟨S16x16x22x1000, .f32⟩
  | 2 => ⟨S16x16x22x1000, .f32⟩
  | 3 => ⟨S16x16x22x1000, .f32⟩
  | 4 => ⟨S16x22x1000, .f32⟩
  | 5 => ⟨S16x1x22x1000, .f32⟩
  | 6 => ⟨S16x1x1x1, .f32⟩
  | 7 => ⟨S16, .f32⟩
  | 8 => ⟨S1x16x1x1, .f32⟩
  | 9 => ⟨S16x16x22x1000, .f32⟩
  | 10 => ⟨S16x16x22x1000, .f32⟩
  | 11 => ⟨S16x16x22x1000, .f32⟩
  | 12 => ⟨S16x16x22x1000, .f32⟩
  | 13 => ⟨S16x22x1000, .f32⟩
  | 14 => ⟨S16x1x22x1000, .f32⟩
  | 15 => ⟨S16x1x1x1, .f32⟩
  | 16 => ⟨S16, .f32⟩
  | 17 => ⟨S1x16x1x1, .f32⟩
  | 18 => ⟨S16x16x22x1000, .f32⟩
  | 19 => ⟨S16x16x22x1000, .f32⟩
  | 20 => ⟨S16x16x22x1000, .f32⟩
  | 21 => ⟨S16x16x22x1000, .f32⟩
  | 22 => ⟨S16x22x1000, .f32⟩
  | 23 => ⟨S16x1x22x1000, .f32⟩
  | 24 => ⟨S16x1x1x1, .f32⟩
  | 25 => ⟨S16, .f32⟩
  | 26 => ⟨S1x16x1x1, .f32⟩
  | 27 => ⟨S16x16x22x1000, .f32⟩
  | 28 => ⟨S16x16x22x1000, .f32⟩
  | 29 => ⟨S16x16x22x1000, .f32⟩
  | 30 => ⟨S16x16x22x1000, .f32⟩
  | 31 => ⟨S16x22x1000, .f32⟩
  | 32 => ⟨S16x1x22x1000, .f32⟩
  | 33 => ⟨S16x1x1x1, .f32⟩
  | 34 => ⟨S16, .f32⟩
  | 35 => ⟨S1x16x1x1, .f32⟩
  | 36 => ⟨S16x16x22x1000, .f32⟩
  | 37 => ⟨S16x16x22x1000, .f32⟩
  | 38 => ⟨S16x16x22x1000, .f32⟩
  | 39 => ⟨S16x16x22x1000, .f32⟩
  | 40 => ⟨S16x22x1000, .f32⟩
  | 41 => ⟨S16x1x22x1000, .f32⟩
  | 42 => ⟨S16x1x1x1, .f32⟩
  | 43 => ⟨S16, .f32⟩
  | 44 => ⟨S1x16x1x1, .f32⟩
  | 45 => ⟨S16x16x22x1000, .f32⟩
  | 46 => ⟨S16x16x22x1000, .f32⟩
  | 47 => ⟨S16x16x22x1000, .f32⟩
  | 48 => ⟨S16x16x22x1000, .f32⟩
  | 49 => ⟨S16x22x1000, .f32⟩
  | 50 => ⟨S16x1x22x1000, .f32⟩
  | 51 => ⟨S16x1x1x1, .f32⟩
  | 52 => ⟨S16, .f32⟩
  | 53 => ⟨S1x16x1x1, .f32⟩
  | 54 => ⟨S16x16x22x1000, .f32⟩
  | 55 => ⟨S16x16x22x1000, .f32⟩
  | 56 => ⟨S16x16x22x1000, .f32⟩
  | 57 => ⟨S16x16x22x1000, .f32⟩
  | 58 => ⟨S16x22x1000, .f32⟩
  | 59 => ⟨S16x1x22x1000, .f32⟩
  | 60 => ⟨S16x1x1x1, .f32⟩
  | 61 => ⟨S16, .f32⟩
  | 62 => ⟨S1x16x1x1, .f32⟩
  | 63 => ⟨S16x16x22x1000, .f32⟩
  | 64 => ⟨S16x16x22x1000, .f32⟩
  | 65 => ⟨S16x16x22x1000, .f32⟩
  | 66 => ⟨S16x16x22x1000, .f32⟩
  | 67 => ⟨S16x22x1000, .f32⟩
  | 68 => ⟨S16x1x22x1000, .f32⟩
  | 69 => ⟨S16x1x1x1, .f32⟩
  | 70 => ⟨S16, .f32⟩
  | 71 => ⟨S1x16x1x1, .f32⟩
  | 72 => ⟨S16x16x22x1000, .f32⟩
  | 73 => ⟨S16x16x22x1000, .f32⟩
  | 74 => ⟨S16x16x22x1000, .f32⟩
  | 75 => ⟨S16x16x22x1000, .f32⟩
  | 76 => ⟨S16x22x1000, .f32⟩
  | 77 => ⟨S16x1x22x1000, .f32⟩
  | 78 => ⟨S16x1x1x1, .f32⟩
  | 79 => ⟨S16, .f32⟩
  | 80 => ⟨S1x16x1x1, .f32⟩
  | 81 => ⟨S16x16x22x1000, .f32⟩
  | 82 => ⟨S16x16x22x1000, .f32⟩
  | 83 => ⟨S16x16x22x1000, .f32⟩
  | 84 => ⟨S16x16x22x1000, .f32⟩
  | 85 => ⟨S16x22x1000, .f32⟩
  | 86 => ⟨S16x1x22x1000, .f32⟩
  | 87 => ⟨S16x1x1x1, .f32⟩
  | 88 => ⟨S16, .f32⟩
  | 89 => ⟨S1x16x1x1, .f32⟩
  | 90 => ⟨S16x16x22x1000, .f32⟩
  | 91 => ⟨S16x16x22x1000, .f32⟩
  | 92 => ⟨S16x16x22x1000, .f32⟩
  | 93 => ⟨S16x16x22x1000, .f32⟩
  | 94 => ⟨S16x22x1000, .f32⟩
  | 95 => ⟨S16x1x22x1000, .f32⟩
  | 96 => ⟨S16x1x1x1, .f32⟩
  | 97 => ⟨S16, .f32⟩
  | 98 => ⟨S1x16x1x1, .f32⟩
  | 99 => ⟨S16x16x22x1000, .f32⟩
  | 100 => ⟨S16x16x22x1000, .f32⟩
  | 101 => ⟨S16x16x22x1000, .f32⟩
  | 102 => ⟨S16x16x22x1000, .f32⟩
  | 103 => ⟨S16x22x1000, .f32⟩
  | 104 => ⟨S16x1x22x1000, .f32⟩
  | 105 => ⟨S16x1x1x1, .f32⟩
  | 106 => ⟨S16, .f32⟩
  | 107 => ⟨S1x16x1x1, .f32⟩
  | 108 => ⟨S16x16x22x1000, .f32⟩
  | 109 => ⟨S16x16x22x1000, .f32⟩
  | 110 => ⟨S16x16x22x1000, .f32⟩
  | 111 => ⟨S16x16x22x1000, .f32⟩
  | 112 => ⟨S16x22x1000, .f32⟩
  | 113 => ⟨S16x1x22x1000, .f32⟩
  | 114 => ⟨S16x1x1x1, .f32⟩
  | 115 => ⟨S16, .f32⟩
  | 116 => ⟨S1x16x1x1, .f32⟩
  | 117 => ⟨S16x16x22x1000, .f32⟩
  | 118 => ⟨S16x16x22x1000, .f32⟩
  | 119 => ⟨S16x16x22x1000, .f32⟩
  | 120 => ⟨S16x16x22x1000, .f32⟩
  | 121 => ⟨S16x22x1000, .f32⟩
  | 122 => ⟨S16x1x22x1000, .f32⟩
  | 123 => ⟨S16x1x1x1, .f32⟩
  | 124 => ⟨S16, .f32⟩
  | 125 => ⟨S1x16x1x1, .f32⟩
  | 126 => ⟨S16x16x22x1000, .f32⟩
  | 127 => ⟨S16x16x22x1000, .f32⟩
  | _ => ⟨S16x1x22x1000, .f32⟩

abbrev hbmTy0_2 (i : Nat) : BufTy := match i % 128 with
  | 0 => ⟨S16x16x22x1000, .f32⟩
  | 1 => ⟨S16x16x22x1000, .f32⟩
  | 2 => ⟨S16x22x1000, .f32⟩
  | 3 => ⟨S16x1x22x1000, .f32⟩
  | 4 => ⟨S16x1x1x1, .f32⟩
  | 5 => ⟨S16, .f32⟩
  | 6 => ⟨S1x16x1x1, .f32⟩
  | 7 => ⟨S16x16x22x1000, .f32⟩
  | 8 => ⟨S16x16x22x1000, .f32⟩
  | 9 => ⟨S16x16x22x1000, .f32⟩
  | 10 => ⟨S16x16x22x1000, .f32⟩
  | 11 => ⟨S16x22x1000, .f32⟩
  | 12 => ⟨S16x1x22x1000, .f32⟩
  | 13 => ⟨S16x1x1x1, .f32⟩
  | 14 => ⟨S16, .f32⟩
  | 15 => ⟨S1x16x1x1, .f32⟩
  | 16 => ⟨S16x16x22x1000, .f32⟩
  | 17 => ⟨S16x16x22x1000, .f32⟩
  | 18 => ⟨S16x16x22x1000, .f32⟩
  | 19 => ⟨S16x16x22x1000, .f32⟩
  | 20 => ⟨S16x22x1000, .f32⟩
  | 21 => ⟨S16x1x22x1000, .f32⟩
  | 22 => ⟨S16x1x1x1, .f32⟩
  | 23 => ⟨S16, .f32⟩
  | 24 => ⟨S1x16x1x1, .f32⟩
  | 25 => ⟨S16x16x22x1000, .f32⟩
  | 26 => ⟨S16x16x22x1000, .f32⟩
  | 27 => ⟨S16x16x22x1000, .f32⟩
  | 28 => ⟨S16x16x22x1000, .f32⟩
  | 29 => ⟨S16x22x1000, .f32⟩
  | 30 => ⟨S16x1x22x1000, .f32⟩
  | 31 => ⟨S16x1x1x1, .f32⟩
  | 32 => ⟨S16, .f32⟩
  | 33 => ⟨S1x16x1x1, .f32⟩
  | 34 => ⟨S16x16x22x1000, .f32⟩
  | 35 => ⟨S16x16x22x1000, .f32⟩
  | 36 => ⟨S16x16x22x1000, .f32⟩
  | 37 => ⟨S16x16x22x1000, .f32⟩
  | 38 => ⟨S16x22x1000, .f32⟩
  | 39 => ⟨S16x1x22x1000, .f32⟩
  | 40 => ⟨S16x1x1x1, .f32⟩
  | 41 => ⟨S16, .f32⟩
  | 42 => ⟨S1x16x1x1, .f32⟩
  | 43 => ⟨S16x16x22x1000, .f32⟩
  | 44 => ⟨S16x16x22x1000, .f32⟩
  | 45 => ⟨S16x16x22x1000, .f32⟩
  | 46 => ⟨S16x16x22x1000, .f32⟩
  | 47 => ⟨S16x22x1000, .f32⟩
  | 48 => ⟨S16x1x22x1000, .f32⟩
  | 49 => ⟨S16x1x1x1, .f32⟩
  | 50 => ⟨S16, .f32⟩
  | 51 => ⟨S1x16x1x1, .f32⟩
  | 52 => ⟨S16x16x22x1000, .f32⟩
  | 53 => ⟨S16x16x22x1000, .f32⟩
  | 54 => ⟨S16x16x22x1000, .f32⟩
  | 55 => ⟨S16x16x22x1000, .f32⟩
  | 56 => ⟨S_, .f32⟩
  | 57 => ⟨S_, .f32⟩
  | 58 => ⟨S_, .f32⟩
  | 59 => ⟨S16, .f32⟩
  | 60 => ⟨S16, .f32⟩
  | 61 => ⟨S1x16x1x1, .f32⟩
  | 62 => ⟨S16x16x22x1000, .f32⟩
  | 63 => ⟨S16x16x22x1000, .f32⟩
  | 64 => ⟨S1x16x1x1, .f32⟩
  | 65 => ⟨S16x16x22x1000, .f32⟩
  | 66 => ⟨S16x16x22x1000, .f32⟩
  | 67 => ⟨S22x16x1000x16, .f32⟩
  | 68 => ⟨S22x16x1000x32, .f32⟩
  | 69 => ⟨S22x16x1000x4x8, .f32⟩
  | 70 => ⟨S1x1x1x4x8, .f32⟩
  | 71 => ⟨S22x16x1000x4x8, .f32⟩
  | 72 => ⟨S22x16x1000x4x8, .f32⟩
  | 73 => ⟨S_, .f32⟩
  | 74 => ⟨S22x16x1000x4, .f32⟩
  | 75 => ⟨S1x1x1x4x8, .f32⟩
  | 76 => ⟨S22x16x1000x4x8, .f32⟩
  | 77 => ⟨S22x16x1000x4x8, .f32⟩
  | 78 => ⟨S_, .f32⟩
  | 79 => ⟨S22x16x1000x4, .f32⟩
  | 80 => ⟨S_, .i32⟩
  | 81 => ⟨S110, .i32⟩
  | 82 => ⟨S110, .i1⟩
  | 83 => ⟨S_, .i32⟩
  | 84 => ⟨S110, .i32⟩
  | 85 => ⟨S110, .i32⟩
  | 86 => ⟨S110, .i32⟩
  | 87 => ⟨S110x1, .i32⟩
  | 88 => ⟨S110x16x1000x4, .f32⟩
  | 89 => ⟨S_, .i32⟩
  | 90 => ⟨S110, .i32⟩
  | 91 => ⟨S110, .i1⟩
  | 92 => ⟨S_, .i32⟩
  | 93 => ⟨S110, .i32⟩
  | 94 => ⟨S110, .i32⟩
  | 95 => ⟨S110, .i32⟩
  | 96 => ⟨S110x1, .i32⟩
  | 97 => ⟨S110x16x1000x4, .f32⟩
  | 98 => ⟨S110x16x1000x4, .f32⟩
  | 99 => ⟨S_, .f32⟩
  | 100 => ⟨S110x16x1000x4, .f32⟩
  | 101 => ⟨S110x16x1000x4, .i1⟩
  | 102 => ⟨S_, .f32⟩
  | 103 => ⟨S110x16x1000x4, .f32⟩
  | 104 => ⟨S110x16x1000x4, .f32⟩
  | 105 => ⟨S110x16x1000x4, .f32⟩
  | 106 => ⟨S1x110, .i32⟩
  | 107 => ⟨S22, .i32⟩
  | 108 => ⟨S22x1, .i32⟩
  | 109 => ⟨S22x110, .i32⟩
  | 110 => ⟨S22x110, .i32⟩
  | 111 => ⟨S22x110, .i1⟩
  | 112 => ⟨S22x110x1x1x1, .i1⟩
  | 113 => ⟨S1x110x16x1000x4, .f32⟩
  | 114 => ⟨S_, .f32⟩
  | 115 => ⟨S_, .f32⟩
  | 116 => ⟨S22x110x16x1000x4, .i1⟩
  | 117 => ⟨S22x110x16x1000x4, .f32⟩
  | 118 => ⟨S22x110x16x1000x4, .f32⟩
  | 119 => ⟨S22x110x16x1000x4, .f32⟩
  | 120 => ⟨S_, .f32⟩
  | 121 => ⟨S22x16x1000x4, .f32⟩
  | 122 => ⟨S_, .i32⟩
  | 123 => ⟨S110, .i32⟩
  | 124 => ⟨S110, .i1⟩
  | 125 => ⟨S_, .i32⟩
  | 126 => ⟨S110, .i32⟩
  | 127 => ⟨S110, .i32⟩
  | _ => ⟨S16x1x22x1000, .f32⟩

abbrev hbmTy0_3 (i : Nat) : BufTy := match i % 128 with
  | 0 => ⟨S110, .i32⟩
  | 1 => ⟨S110x1, .i32⟩
  | 2 => ⟨S110x16x1000x4, .f32⟩
  | 3 => ⟨S110x16x1000x4, .f32⟩
  | 4 => ⟨S110x16x1000x4, .f32⟩
  | 5 => ⟨S_, .f32⟩
  | 6 => ⟨S22x16x1000x4, .f32⟩
  | 7 => ⟨S110x1, .i32⟩
  | 8 => ⟨S22x16x1000x4, .f32⟩
  | 9 => ⟨S_, .f32⟩
  | 10 => ⟨S16x1000x4, .f32⟩
  | 11 => ⟨S_, .f32⟩
  | 12 => ⟨S16x1000x4, .f32⟩
  | 13 => ⟨S16x1000x4, .f32⟩
  | 14 => ⟨S_, .f32⟩
  | 15 => ⟨S16x1000x4, .f32⟩
  | 16 => ⟨S16x1000x4, .i1⟩
  | 17 => ⟨S_, .f32⟩
  | 18 => ⟨S16x1000x4, .f32⟩
  | 19 => ⟨S16x1000x4, .f32⟩
  | 20 => ⟨S16x1000x4, .f32⟩
  | 21 => ⟨S1x16x1000x4, .f32⟩
  | 22 => ⟨S22x16x1000x4, .f32⟩
  | 23 => ⟨S22x16x1000x4, .f32⟩
  | 24 => ⟨S22x16x1000x4, .f32⟩
  | 25 => ⟨S_, .f32⟩
  | 26 => ⟨S22x16x1000x4, .f32⟩
  | 27 => ⟨S22x16x1000x4, .f32⟩
  | 28 => ⟨S_, .i32⟩
  | 29 => ⟨S110, .i32⟩
  | 30 => ⟨S110, .i1⟩
  | 31 => ⟨S_, .i32⟩
  | 32 => ⟨S110, .i32⟩
  | 33 => ⟨S110, .i32⟩
  | 34 => ⟨S110, .i32⟩
  | 35 => ⟨S110x1, .i32⟩
  | 36 => ⟨S110x16x1000x4, .f32⟩
  | 37 => ⟨S_, .i32⟩
  | 38 => ⟨S110, .i32⟩
  | 39 => ⟨S110, .i1⟩
  | 40 => ⟨S_, .i32⟩
  | 41 => ⟨S110, .i32⟩
  | 42 => ⟨S110, .i32⟩
  | 43 => ⟨S110, .i32⟩
  | 44 => ⟨S110x1, .i32⟩
  | 45 => ⟨S110x16x1000x4, .f32⟩
  | 46 => ⟨S110x16x1000x4, .f32⟩
  | 47 => ⟨S110x16x1000x4, .f32⟩
  | 48 => ⟨S_, .i32⟩
  | 49 => ⟨S110, .i32⟩
  | 50 => ⟨S110, .i1⟩
  | 51 => ⟨S_, .i32⟩
  | 52 => ⟨S110, .i32⟩
  | 53 => ⟨S110, .i32⟩
  | 54 => ⟨S110, .i32⟩
  | 55 => ⟨S110x1, .i32⟩
  | 56 => ⟨S110x16x1000x4x8, .f32⟩
  | 57 => ⟨S110x16x1000x4x1, .f32⟩
  | 58 => ⟨S110x16x1000x4x8, .f32⟩
  | 59 => ⟨S110x16x1000x4x8, .f32⟩
  | 60 => ⟨S_, .f32⟩
  | 61 => ⟨S22x16x1000x4x8, .f32⟩
  | 62 => ⟨S110x1, .i32⟩
  | 63 => ⟨S22x16x1000x4x8, .f32⟩
  | 64 => ⟨S22x16x1000x32, .f32⟩
  | 65 => ⟨S1x1x1x32, .f32⟩
  | 66 => ⟨S22x16x1000x32, .f32⟩
  | 67 => ⟨S22x16x1000x32, .f32⟩
  | 68 => ⟨S_, .f32⟩
  | 69 => ⟨S16x1000x32, .f32⟩
  | 70 => ⟨S_, .f32⟩
  | 71 => ⟨S16x1000x32, .f32⟩
  | 72 => ⟨S16x1000x32, .f32⟩
  | 73 => ⟨S16x32x1000, .f32⟩
  | 74 => ⟨S_, .f32⟩
  | 75 => ⟨S_, .f32⟩
  | 76 => ⟨S_, .f32⟩
  | 77 => ⟨S32, .f32⟩
  | 78 => ⟨S32, .f32⟩
  | 79 => ⟨S1x32x1, .f32⟩
  | 80 => ⟨S16x32x1000, .f32⟩
  | 81 => ⟨S16x32x1000, .f32⟩
  | 82 => ⟨S1x32x1, .f32⟩
  | 83 => ⟨S16x32x1000, .f32⟩
  | 84 => ⟨S16x32x1000, .f32⟩
  | 85 => ⟨S_, .f32⟩
  | 86 => ⟨S16x32x1000, .f32⟩
  | 87 => ⟨S16x32x1000, .i1⟩
  | 88 => ⟨S_, .f32⟩
  | 89 => ⟨S16x32x1000, .f32⟩
  | 90 => ⟨S16x32x1000, .i1⟩
  | 91 => ⟨S_, .f32⟩
  | 92 => ⟨S_, .f32⟩
  | 93 => ⟨S16x32x1000, .f32⟩
  | 94 => ⟨S16x32x1000, .f32⟩
  | 95 => ⟨S16x32x1000, .f32⟩
  | 96 => ⟨S16x32x1000, .f32⟩
  | 97 => ⟨S16x32x125x8, .f32⟩
  | 98 => ⟨S_, .f32⟩
  | 99 => ⟨S16x32x125, .f32⟩
  | 100 => ⟨S_, .f32⟩
  | 101 => ⟨S16x32x125, .f32⟩
  | 102 => ⟨S16x32x125, .f32⟩
  | 103 => ⟨S_, .i32⟩
  | 104 => ⟨S_, .f32⟩
  | 105 => ⟨S16x32x140, .f32⟩
  | 106 => ⟨S32x32x1x1, .f32⟩
  | 107 => ⟨S32x32, .f32⟩
  | 108 => ⟨S16x32x125, .f32⟩
  | 109 => ⟨S16x125x32, .f32⟩
  | 110 => ⟨S16x32x125, .f32⟩
  | 111 => ⟨S_, .f32⟩
  | 112 => ⟨S16x32x125, .f32⟩
  | 113 => ⟨S16x32x125, .f32⟩
  | 114 => ⟨S32x32x1x1, .f32⟩
  | 115 => ⟨S32x32, .f32⟩
  | 116 => ⟨S16x32x125, .f32⟩
  | 117 => ⟨S16x125x32, .f32⟩
  | 118 => ⟨S16x32x125, .f32⟩
  | 119 => ⟨S16x32x125, .f32⟩
  | 120 => ⟨S32x32x1x1, .f32⟩
  | 121 => ⟨S32x32, .f32⟩
  | 122 => ⟨S16x32x125, .f32⟩
  | 123 => ⟨S16x125x32, .f32⟩
  | 124 => ⟨S16x32x125, .f32⟩
  | 125 => ⟨S16x32x125, .f32⟩
  | 126 => ⟨S32x32x1x1, .f32⟩
  | 127 => ⟨S32x32, .f32⟩
  | _ => ⟨S16x1x22x1000, .f32⟩

abbrev hbmTy0_4 (i : Nat) : BufTy := match i % 128 with
  | 0 => ⟨S16x32x125, .f32⟩
  | 1 => ⟨S16x125x32, .f32⟩
  | 2 => ⟨S16x32x125, .f32⟩
  | 3 => ⟨S16x32x125, .f32⟩
  | 4 => ⟨S32x32x1x1, .f32⟩
  | 5 => ⟨S32x32, .f32⟩
  | 6 => ⟨S16x32x125, .f32⟩
  | 7 => ⟨S16x125x32, .f32⟩
  | 8 => ⟨S16x32x125, .f32⟩
  | 9 => ⟨S16x32x125, .f32⟩
  | 10 => ⟨S32x32x1x1, .f32⟩
  | 11 => ⟨S32x32, .f32⟩
  | 12 => ⟨S16x32x125, .f32⟩
  | 13 => ⟨S16x125x32, .f32⟩
  | 14 => ⟨S16x32x125, .f32⟩
  | 15 => ⟨S16x32x125, .f32⟩
  | 16 => ⟨S32x32x1x1, .f32⟩
  | 17 => ⟨S32x32, .f32⟩
  | 18 => ⟨S16x32x125, .f32⟩
  | 19 => ⟨S16x125x32, .f32⟩
  | 20 => ⟨S16x32x125, .f32⟩
  | 21 => ⟨S16x32x125, .f32⟩
  | 22 => ⟨S32x32x1x1, .f32⟩
  | 23 => ⟨S32x32, .f32⟩
  | 24 => ⟨S16x32x125, .f32⟩
  | 25 => ⟨S16x125x32, .f32⟩
  | 26 => ⟨S16x32x125, .f32⟩
  | 27 => ⟨S16x32x125, .f32⟩
  | 28 => ⟨S32x32x1x1, .f32⟩
  | 29 => ⟨S32x32, .f32⟩
  | 30 => ⟨S16x32x125, .f32⟩
  | 31 => ⟨S16x125x32, .f32⟩
  | 32 => ⟨S16x32x125, .f32⟩
  | 33 => ⟨S16x32x125, .f32⟩
  | 34 => ⟨S32x32x1x1, .f32⟩
  | 35 => ⟨S32x32, .f32⟩
  | 36 => ⟨S16x32x125, .f32⟩
  | 37 => ⟨S16x125x32, .f32⟩
  | 38 => ⟨S16x32x125, .f32⟩
  | 39 => ⟨S16x32x125, .f32⟩
  | 40 => ⟨S32x32x1x1, .f32⟩
  | 41 => ⟨S32x32, .f32⟩
  | 42 => ⟨S16x32x125, .f32⟩
  | 43 => ⟨S16x125x32, .f32⟩
  | 44 => ⟨S16x32x125, .f32⟩
  | 45 => ⟨S16x32x125, .f32⟩
  | 46 => ⟨S32x32x1x1, .f32⟩
  | 47 => ⟨S32x32, .f32⟩
  | 48 => ⟨S16x32x125, .f32⟩
  | 49 => ⟨S16x125x32, .f32⟩
  | 50 => ⟨S16x32x125, .f32⟩
  | 51 => ⟨S16x32x125, .f32⟩
  | 52 => ⟨S32x32x1x1, .f32⟩
  | 53 => ⟨S32x32, .f32⟩
  | 54 => ⟨S16x32x125, .f32⟩
  | 55 => ⟨S16x125x32, .f32⟩
  | 56 => ⟨S16x32x125, .f32⟩
  | 57 => ⟨S16x32x125, .f32⟩
  | 58 => ⟨S32x32x1x1, .f32⟩
  | 59 => ⟨S32x32, .f32⟩
  | 60 => ⟨S16x32x125, .f32⟩
  | 61 => ⟨S16x125x32, .f32⟩
  | 62 => ⟨S16x32x125, .f32⟩
  | 63 => ⟨S16x32x125, .f32⟩
  | 64 => ⟨S32x32x1x1, .f32⟩
  | 65 => ⟨S32x32, .f32⟩
  | 66 => ⟨S16x32x125, .f32⟩
  | 67 => ⟨S16x125x32, .f32⟩
  | 68 => ⟨S16x32x125, .f32⟩
  | 69 => ⟨S16x32x125, .f32⟩
  | 70 => ⟨S32x32x1x1, .f32⟩
  | 71 => ⟨S32x32, .f32⟩
  | 72 => ⟨S16x32x125, .f32⟩
  | 73 => ⟨S16x125x32, .f32⟩
  | 74 => ⟨S16x32x125, .f32⟩
  | 75 => ⟨S16x32x125, .f32⟩
  | 76 => ⟨S_, .f32⟩
  | 77 => ⟨S_, .f32⟩
  | 78 => ⟨S_, .f32⟩
  | 79 => ⟨S32, .f32⟩
  | 80 => ⟨S32, .f32⟩
  | 81 => ⟨S1x32x1, .f32⟩
  | 82 => ⟨S16x32x125, .f32⟩
  | 83 => ⟨S16x32x125, .f32⟩
  | 84 => ⟨S1x32x1, .f32⟩
  | 85 => ⟨S16x32x125, .f32⟩
  | 86 => ⟨S16x32x125, .f32⟩
  | 87 => ⟨S_, .f32⟩
  | 88 => ⟨S16x32x125, .f32⟩
  | 89 => ⟨S16x32x125, .i1⟩
  | 90 => ⟨S_, .f32⟩
  | 91 => ⟨S16x32x125, .f32⟩
  | 92 => ⟨S16x32x125, .i1⟩
  | 93 => ⟨S_, .f32⟩
  | 94 => ⟨S_, .f32⟩
  | 95 => ⟨S16x32x125, .f32⟩
  | 96 => ⟨S16x32x125, .f32⟩
  | 97 => ⟨S16x32x125, .f32⟩
  | 98 => ⟨S16x32x125, .f32⟩
  | 99 => ⟨S16x32x124, .f32⟩
  | 100 => ⟨S16x32x31x4, .f32⟩
  | 101 => ⟨S_, .f32⟩
  | 102 => ⟨S16x32x31, .f32⟩
  | 103 => ⟨S_, .f32⟩
  | 104 => ⟨S16x32x31, .f32⟩
  | 105 => ⟨S16x32x31, .f32⟩
  | _ => ⟨S16x1x22x1000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x1x22x1000, .f32⟩

abbrev bufTy : (tb : Table) → Fin (tcTables nBuf tb) → BufTy
  | .hbm, ⟨i, _⟩ => hbmTy i
  | _, _ => ⟨S16x1x22x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_v257 : Ref sig .tc := ⟨.hbm, 274, rfl⟩
abbrev main_v258 : Ref sig .tc := ⟨.hbm, 275, rfl⟩
abbrev main_v259 : Ref sig .tc := ⟨.hbm, 276, rfl⟩
abbrev main_v260 : Ref sig .tc := ⟨.hbm, 277, rfl⟩
abbrev main_v261 : Ref sig .tc := ⟨.hbm, 278, rfl⟩
abbrev main_v262 : Ref sig .tc := ⟨.hbm, 279, rfl⟩
abbrev main_v263 : Ref sig .tc := ⟨.hbm, 280, rfl⟩
abbrev main_v264 : Ref sig .tc := ⟨.hbm, 281, rfl⟩
abbrev main_v265 : Ref sig .tc := ⟨.hbm, 282, rfl⟩
abbrev main_v266 : Ref sig .tc := ⟨.hbm, 283, rfl⟩
abbrev main_v267 : Ref sig .tc := ⟨.hbm, 284, rfl⟩
abbrev main_v268 : Ref sig .tc := ⟨.hbm, 285, rfl⟩
abbrev main_v269 : Ref sig .tc := ⟨.hbm, 286, rfl⟩
abbrev main_v270 : Ref sig .tc := ⟨.hbm, 287, rfl⟩
abbrev main_v271 : Ref sig .tc := ⟨.hbm, 288, rfl⟩
abbrev main_v272 : Ref sig .tc := ⟨.hbm, 289, rfl⟩
abbrev main_v273 : Ref sig .tc := ⟨.hbm, 290, rfl⟩
abbrev main_v274 : Ref sig .tc := ⟨.hbm, 291, rfl⟩
abbrev main_v275 : Ref sig .tc := ⟨.hbm, 292, rfl⟩
abbrev main_v276 : Ref sig .tc := ⟨.hbm, 293, rfl⟩
abbrev main_v277 : Ref sig .tc := ⟨.hbm, 294, rfl⟩
abbrev main_v278 : Ref sig .tc := ⟨.hbm, 295, rfl⟩
abbrev main_v279 : Ref sig .tc := ⟨.hbm, 296, rfl⟩
abbrev main_v280 : Ref sig .tc := ⟨.hbm, 297, rfl⟩
abbrev main_v281 : Ref sig .tc := ⟨.hbm, 298, rfl⟩
abbrev main_v282 : Ref sig .tc := ⟨.hbm, 299, rfl⟩
abbrev main_v283 : Ref sig .tc := ⟨.hbm, 300, rfl⟩
abbrev main_v284 : Ref sig .tc := ⟨.hbm, 301, rfl⟩
abbrev main_v285 : Ref sig .tc := ⟨.hbm, 302, rfl⟩
abbrev main_v286 : Ref sig .tc := ⟨.hbm, 303, rfl⟩
abbrev main_v287 : Ref sig .tc := ⟨.hbm, 304, rfl⟩
abbrev main_v288 : Ref sig .tc := ⟨.hbm, 305, rfl⟩
abbrev main_v289 : Ref sig .tc := ⟨.hbm, 306, rfl⟩
abbrev main_v290 : Ref sig .tc := ⟨.hbm, 307, rfl⟩
abbrev main_v291 : Ref sig .tc := ⟨.hbm, 308, rfl⟩
abbrev main_v292 : Ref sig .tc := ⟨.hbm, 309, rfl⟩
abbrev main_v293 : Ref sig .tc := ⟨.hbm, 310, rfl⟩
abbrev main_v294 : Ref sig .tc := ⟨.hbm, 311, rfl⟩
abbrev main_cst_0 : Ref sig .tc := ⟨.hbm, 312, rfl⟩
abbrev main_v295 : Ref sig .tc := ⟨.hbm, 313, rfl⟩
abbrev main_v296 : Ref sig .tc := ⟨.hbm, 314, rfl⟩
abbrev main_v297 : Ref sig .tc := ⟨.hbm, 315, rfl⟩
abbrev main_v298 : Ref sig .tc := ⟨.hbm, 316, rfl⟩
abbrev main_v299 : Ref sig .tc := ⟨.hbm, 317, rfl⟩
abbrev main_v300 : Ref sig .tc := ⟨.hbm, 318, rfl⟩
abbrev main_v301 : Ref sig .tc := ⟨.hbm, 319, rfl⟩
abbrev main_v302 : Ref sig .tc := ⟨.hbm, 320, rfl⟩
abbrev main_v303 : Ref sig .tc := ⟨.hbm, 321, rfl⟩
abbrev main_v304 : Ref sig .tc := ⟨.hbm, 322, rfl⟩
abbrev main_v305 : Ref sig .tc := ⟨.hbm, 323, rfl⟩
abbrev main_v306 : Ref sig .tc := ⟨.hbm, 324, rfl⟩
abbrev main_v307 : Ref sig .tc := ⟨.hbm, 325, rfl⟩
abbrev main_v308 : Ref sig .tc := ⟨.hbm, 326, rfl⟩
abbrev main_v309 : Ref sig .tc := ⟨.hbm, 327, rfl⟩
abbrev main_v310 : Ref sig .tc := ⟨.hbm, 328, rfl⟩
abbrev main_cst_1 : Ref sig .tc := ⟨.hbm, 329, rfl⟩
abbrev main_v311 : Ref sig .tc := ⟨.hbm, 330, rfl⟩
abbrev main_v312 : Ref sig .tc := ⟨.hbm, 331, rfl⟩
abbrev main_v313 : Ref sig .tc := ⟨.hbm, 332, rfl⟩
abbrev main_v314 : Ref sig .tc := ⟨.hbm, 333, rfl⟩
abbrev main_cst_2 : Ref sig .tc := ⟨.hbm, 334, rfl⟩
abbrev main_v315 : Ref sig .tc := ⟨.hbm, 335, rfl⟩
abbrev main_c_3 : Ref sig .tc := ⟨.hbm, 336, rfl⟩
abbrev main_v316 : Ref sig .tc := ⟨.hbm, 337, rfl⟩
abbrev main_v317 : Ref sig .tc := ⟨.hbm, 338, rfl⟩
abbrev main_c_4 : Ref sig .tc := ⟨.hbm, 339, rfl⟩
abbrev main_v318 : Ref sig .tc := ⟨.hbm, 340, rfl⟩
abbrev main_v319 : Ref sig .tc := ⟨.hbm, 341, rfl⟩
abbrev main_v320 : Ref sig .tc := ⟨.hbm, 342, rfl⟩
abbrev main_v321 : Ref sig .tc := ⟨.hbm, 343, rfl⟩
abbrev main_v322 : Ref sig .tc := ⟨.hbm, 344, rfl⟩
abbrev main_c_5 : Ref sig .tc := ⟨.hbm, 345, rfl⟩
abbrev main_v323 : Ref sig .tc := ⟨.hbm, 346, rfl⟩
abbrev main_v324 : Ref sig .tc := ⟨.hbm, 347, rfl⟩
abbrev main_c_6 : Ref sig .tc := ⟨.hbm, 348, rfl⟩
abbrev main_v325 : Ref sig .tc := ⟨.hbm, 349, rfl⟩
abbrev main_v326 : Ref sig .tc := ⟨.hbm, 350, rfl⟩
abbrev main_v327 : Ref sig .tc := ⟨.hbm, 351, rfl⟩
abbrev main_v328 : Ref sig .tc := ⟨.hbm, 352, rfl⟩
abbrev main_v329 : Ref sig .tc := ⟨.hbm, 353, rfl⟩
abbrev main_v330 : Ref sig .tc := ⟨.hbm, 354, rfl⟩
abbrev main_cst_7 : Ref sig .tc := ⟨.hbm, 355, rfl⟩
abbrev main_v331 : Ref sig .tc := ⟨.hbm, 356, rfl⟩
abbrev main_v332 : Ref sig .tc := ⟨.hbm, 357, rfl⟩
abbrev main_cst_8 : Ref sig .tc := ⟨.hbm, 358, rfl⟩
abbrev main_v333 : Ref sig .tc := ⟨.hbm, 359, rfl⟩
abbrev main_v334 : Ref sig .tc := ⟨.hbm, 360, rfl⟩
abbrev main_v335 : Ref sig .tc := ⟨.hbm, 361, rfl⟩
abbrev main_v336 : Ref sig .tc := ⟨.hbm, 362, rfl⟩
abbrev main_v337 : Ref sig .tc := ⟨.hbm, 363, rfl⟩
abbrev main_v338 : Ref sig .tc := ⟨.hbm, 364, rfl⟩
abbrev main_v339 : Ref sig .tc := ⟨.hbm, 365, rfl⟩
abbrev main_v340 : Ref sig .tc := ⟨.hbm, 366, rfl⟩
abbrev main_v341 : Ref sig .tc := ⟨.hbm, 367, rfl⟩
abbrev main_v342 : Ref sig .tc := ⟨.hbm, 368, rfl⟩
abbrev main_v343 : Ref sig .tc := ⟨.hbm, 369, rfl⟩
abbrev main_cst_9 : Ref sig .tc := ⟨.hbm, 370, rfl⟩
abbrev main_call2_v0 : Ref sig .tc := ⟨.hbm, 371, rfl⟩
abbrev main_call2_v1 : Ref sig .tc := ⟨.hbm, 372, rfl⟩
abbrev main_call2_v2 : Ref sig .tc := ⟨.hbm, 373, rfl⟩
abbrev main_call2_v3 : Ref sig .tc := ⟨.hbm, 374, rfl⟩
abbrev main_v344 : Ref sig .tc := ⟨.hbm, 375, rfl⟩
abbrev main_cst_10 : Ref sig .tc := ⟨.hbm, 376, rfl⟩
abbrev main_v345 : Ref sig .tc := ⟨.hbm, 377, rfl⟩
abbrev main_c_11 : Ref sig .tc := ⟨.hbm, 378, rfl⟩
abbrev main_v346 : Ref sig .tc := ⟨.hbm, 379, rfl⟩
abbrev main_v347 : Ref sig .tc := ⟨.hbm, 380, rfl⟩
abbrev main_c_12 : Ref sig .tc := ⟨.hbm, 381, rfl⟩
abbrev main_v348 : Ref sig .tc := ⟨.hbm, 382, rfl⟩
abbrev main_v349 : Ref sig .tc := ⟨.hbm, 383, rfl⟩
abbrev main_v350 : Ref sig .tc := ⟨.hbm, 384, rfl⟩
abbrev main_v351 : Ref sig .tc := ⟨.hbm, 385, rfl⟩
abbrev main_v352 : Ref sig .tc := ⟨.hbm, 386, rfl⟩
abbrev main_v353 : Ref sig .tc := ⟨.hbm, 387, rfl⟩
abbrev main_v354 : Ref sig .tc := ⟨.hbm, 388, rfl⟩
abbrev main_cst_13 : Ref sig .tc := ⟨.hbm, 389, rfl⟩
abbrev main_v355 : Ref sig .tc := ⟨.hbm, 390, rfl⟩
abbrev main_v356 : Ref sig .tc := ⟨.hbm, 391, rfl⟩
abbrev main_v357 : Ref sig .tc := ⟨.hbm, 392, rfl⟩
abbrev main_cst_14 : Ref sig .tc := ⟨.hbm, 393, rfl⟩
abbrev main_v358 : Ref sig .tc := ⟨.hbm, 394, rfl⟩
abbrev main_cst_15 : Ref sig .tc := ⟨.hbm, 395, rfl⟩
abbrev main_v359 : Ref sig .tc := ⟨.hbm, 396, rfl⟩
abbrev main_v360 : Ref sig .tc := ⟨.hbm, 397, rfl⟩
abbrev main_cst_16 : Ref sig .tc := ⟨.hbm, 398, rfl⟩
abbrev main_v361 : Ref sig .tc := ⟨.hbm, 399, rfl⟩
abbrev main_v362 : Ref sig .tc := ⟨.hbm, 400, rfl⟩
abbrev main_cst_17 : Ref sig .tc := ⟨.hbm, 401, rfl⟩
abbrev main_v363 : Ref sig .tc := ⟨.hbm, 402, rfl⟩
abbrev main_v364 : Ref sig .tc := ⟨.hbm, 403, rfl⟩
abbrev main_v365 : Ref sig .tc := ⟨.hbm, 404, rfl⟩
abbrev main_v366 : Ref sig .tc := ⟨.hbm, 405, rfl⟩
abbrev main_v367 : Ref sig .tc := ⟨.hbm, 406, rfl⟩
abbrev main_v368 : Ref sig .tc := ⟨.hbm, 407, rfl⟩
abbrev main_v369 : Ref sig .tc := ⟨.hbm, 408, rfl⟩
abbrev main_cst_18 : Ref sig .tc := ⟨.hbm, 409, rfl⟩
abbrev main_v370 : Ref sig .tc := ⟨.hbm, 410, rfl⟩
abbrev main_v371 : Ref sig .tc := ⟨.hbm, 411, rfl⟩
abbrev main_c_19 : Ref sig .tc := ⟨.hbm, 412, rfl⟩
abbrev main_v372 : Ref sig .tc := ⟨.hbm, 413, rfl⟩
abbrev main_v373 : Ref sig .tc := ⟨.hbm, 414, rfl⟩
abbrev main_c_20 : Ref sig .tc := ⟨.hbm, 415, rfl⟩
abbrev main_v374 : Ref sig .tc := ⟨.hbm, 416, rfl⟩
abbrev main_v375 : Ref sig .tc := ⟨.hbm, 417, rfl⟩
abbrev main_v376 : Ref sig .tc := ⟨.hbm, 418, rfl⟩
abbrev main_v377 : Ref sig .tc := ⟨.hbm, 419, rfl⟩
abbrev main_v378 : Ref sig .tc := ⟨.hbm, 420, rfl⟩
abbrev main_c_21 : Ref sig .tc := ⟨.hbm, 421, rfl⟩
abbrev main_v379 : Ref sig .tc := ⟨.hbm, 422, rfl⟩
abbrev main_v380 : Ref sig .tc := ⟨.hbm, 423, rfl⟩
abbrev main_c_22 : Ref sig .tc := ⟨.hbm, 424, rfl⟩
abbrev main_v381 : Ref sig .tc := ⟨.hbm, 425, rfl⟩
abbrev main_v382 : Ref sig .tc := ⟨.hbm, 426, rfl⟩
abbrev main_v383 : Ref sig .tc := ⟨.hbm, 427, rfl⟩
abbrev main_v384 : Ref sig .tc := ⟨.hbm, 428, rfl⟩
abbrev main_v385 : Ref sig .tc := ⟨.hbm, 429, rfl⟩
abbrev main_v386 : Ref sig .tc := ⟨.hbm, 430, rfl⟩
abbrev main_v387 : Ref sig .tc := ⟨.hbm, 431, rfl⟩
abbrev main_c_23 : Ref sig .tc := ⟨.hbm, 432, rfl⟩
abbrev main_v388 : Ref sig .tc := ⟨.hbm, 433, rfl⟩
abbrev main_v389 : Ref sig .tc := ⟨.hbm, 434, rfl⟩
abbrev main_c_24 : Ref sig .tc := ⟨.hbm, 435, rfl⟩
abbrev main_v390 : Ref sig .tc := ⟨.hbm, 436, rfl⟩
abbrev main_v391 : Ref sig .tc := ⟨.hbm, 437, rfl⟩
abbrev main_v392 : Ref sig .tc := ⟨.hbm, 438, rfl⟩
abbrev main_v393 : Ref sig .tc := ⟨.hbm, 439, rfl⟩
abbrev main_v394 : Ref sig .tc := ⟨.hbm, 440, rfl⟩
abbrev main_v395 : Ref sig .tc := ⟨.hbm, 441, rfl⟩
abbrev main_v396 : Ref sig .tc := ⟨.hbm, 442, rfl⟩
abbrev main_v397 : Ref sig .tc := ⟨.hbm, 443, rfl⟩
abbrev main_cst_25 : Ref sig .tc := ⟨.hbm, 444, rfl⟩
abbrev main_v398 : Ref sig .tc := ⟨.hbm, 445, rfl⟩
abbrev main_v399 : Ref sig .tc := ⟨.hbm, 446, rfl⟩
abbrev main_v400 : Ref sig .tc := ⟨.hbm, 447, rfl⟩
abbrev main_v401 : Ref sig .tc := ⟨.hbm, 448, rfl⟩
abbrev main_v402 : Ref sig .tc := ⟨.hbm, 449, rfl⟩
abbrev main_v403 : Ref sig .tc := ⟨.hbm, 450, rfl⟩
abbrev main_v404 : Ref sig .tc := ⟨.hbm, 451, rfl⟩
abbrev main_cst_26 : Ref sig .tc := ⟨.hbm, 452, rfl⟩
abbrev main_v405 : Ref sig .tc := ⟨.hbm, 453, rfl⟩
abbrev main_cst_27 : Ref sig .tc := ⟨.hbm, 454, rfl⟩
abbrev main_v406 : Ref sig .tc := ⟨.hbm, 455, rfl⟩
abbrev main_v407 : Ref sig .tc := ⟨.hbm, 456, rfl⟩
abbrev main_v408 : Ref sig .tc := ⟨.hbm, 457, rfl⟩
abbrev main_cst_28 : Ref sig .tc := ⟨.hbm, 458, rfl⟩
abbrev main_v409 : Ref sig .tc := ⟨.hbm, 459, rfl⟩
abbrev main_v410 : Ref sig .tc := ⟨.hbm, 460, rfl⟩
abbrev main_v411 : Ref sig .tc := ⟨.hbm, 461, rfl⟩
abbrev main_v412 : Ref sig .tc := ⟨.hbm, 462, rfl⟩
abbrev main_v413 : Ref sig .tc := ⟨.hbm, 463, rfl⟩
abbrev main_v414 : Ref sig .tc := ⟨.hbm, 464, rfl⟩
abbrev main_v415 : Ref sig .tc := ⟨.hbm, 465, rfl⟩
abbrev main_v416 : Ref sig .tc := ⟨.hbm, 466, rfl⟩
abbrev main_v417 : Ref sig .tc := ⟨.hbm, 467, rfl⟩
abbrev main_v418 : Ref sig .tc := ⟨.hbm, 468, rfl⟩
abbrev main_cst_29 : Ref sig .tc := ⟨.hbm, 469, rfl⟩
abbrev main_v419 : Ref sig .tc := ⟨.hbm, 470, rfl⟩
abbrev main_v420 : Ref sig .tc := ⟨.hbm, 471, rfl⟩
abbrev main_cst_30 : Ref sig .tc := ⟨.hbm, 472, rfl⟩
abbrev main_v421 : Ref sig .tc := ⟨.hbm, 473, rfl⟩
abbrev main_v422 : Ref sig .tc := ⟨.hbm, 474, rfl⟩
abbrev main_cst_31 : Ref sig .tc := ⟨.hbm, 475, rfl⟩
abbrev main_call4_v0 : Ref sig .tc := ⟨.hbm, 476, rfl⟩
abbrev main_call4_v1 : Ref sig .tc := ⟨.hbm, 477, rfl⟩
abbrev main_v423 : Ref sig .tc := ⟨.hbm, 478, rfl⟩
abbrev main_v424 : Ref sig .tc := ⟨.hbm, 479, rfl⟩
abbrev main_v425 : Ref sig .tc := ⟨.hbm, 480, rfl⟩
abbrev main_v426 : Ref sig .tc := ⟨.hbm, 481, rfl⟩
abbrev main_cst_32 : Ref sig .tc := ⟨.hbm, 482, rfl⟩
abbrev main_v427 : Ref sig .tc := ⟨.hbm, 483, rfl⟩
abbrev main_cst_33 : Ref sig .tc := ⟨.hbm, 484, rfl⟩
abbrev main_v428 : Ref sig .tc := ⟨.hbm, 485, rfl⟩
abbrev main_v429 : Ref sig .tc := ⟨.hbm, 486, rfl⟩
abbrev main_c_34 : Ref sig .tc := ⟨.hbm, 487, rfl⟩
abbrev main_call6_v0 : Ref sig .tc := ⟨.hbm, 488, rfl⟩
abbrev main_v430 : Ref sig .tc := ⟨.hbm, 489, rfl⟩
abbrev main_v431 : Ref sig .tc := ⟨.hbm, 490, rfl⟩
abbrev main_v432 : Ref sig .tc := ⟨.hbm, 491, rfl⟩
abbrev main_v433 : Ref sig .tc := ⟨.hbm, 492, rfl⟩
abbrev main_v434 : Ref sig .tc := ⟨.hbm, 493, rfl⟩
abbrev main_v435 : Ref sig .tc := ⟨.hbm, 494, rfl⟩
abbrev main_cst_35 : Ref sig .tc := ⟨.hbm, 495, rfl⟩
abbrev main_v436 : Ref sig .tc := ⟨.hbm, 496, rfl⟩
abbrev main_v437 : Ref sig .tc := ⟨.hbm, 497, rfl⟩
abbrev main_v438 : Ref sig .tc := ⟨.hbm, 498, rfl⟩
abbrev main_v439 : Ref sig .tc := ⟨.hbm, 499, rfl⟩
abbrev main_v440 : Ref sig .tc := ⟨.hbm, 500, rfl⟩
abbrev main_v441 : Ref sig .tc := ⟨.hbm, 501, rfl⟩
abbrev main_v442 : Ref sig .tc := ⟨.hbm, 502, rfl⟩
abbrev main_v443 : Ref sig .tc := ⟨.hbm, 503, rfl⟩
abbrev main_v444 : Ref sig .tc := ⟨.hbm, 504, rfl⟩
abbrev main_v445 : Ref sig .tc := ⟨.hbm, 505, rfl⟩
abbrev main_v446 : Ref sig .tc := ⟨.hbm, 506, rfl⟩
abbrev main_v447 : Ref sig .tc := ⟨.hbm, 507, rfl⟩
abbrev main_v448 : Ref sig .tc := ⟨.hbm, 508, rfl⟩
abbrev main_v449 : Ref sig .tc := ⟨.hbm, 509, rfl⟩
abbrev main_v450 : Ref sig .tc := ⟨.hbm, 510, rfl⟩
abbrev main_v451 : Ref sig .tc := ⟨.hbm, 511, rfl⟩
abbrev main_v452 : Ref sig .tc := ⟨.hbm, 512, rfl⟩
abbrev main_v453 : Ref sig .tc := ⟨.hbm, 513, rfl⟩
abbrev main_v454 : Ref sig .tc := ⟨.hbm, 514, rfl⟩
abbrev main_v455 : Ref sig .tc := ⟨.hbm, 515, rfl⟩
abbrev main_v456 : Ref sig .tc := ⟨.hbm, 516, rfl⟩
abbrev main_v457 : Ref sig .tc := ⟨.hbm, 517, rfl⟩
abbrev main_v458 : Ref sig .tc := ⟨.hbm, 518, rfl⟩
abbrev main_v459 : Ref sig .tc := ⟨.hbm, 519, rfl⟩
abbrev main_v460 : Ref sig .tc := ⟨.hbm, 520, rfl⟩
abbrev main_v461 : Ref sig .tc := ⟨.hbm, 521, rfl⟩
abbrev main_v462 : Ref sig .tc := ⟨.hbm, 522, rfl⟩
abbrev main_v463 : Ref sig .tc := ⟨.hbm, 523, rfl⟩
abbrev main_v464 : Ref sig .tc := ⟨.hbm, 524, rfl⟩
abbrev main_v465 : Ref sig .tc := ⟨.hbm, 525, rfl⟩
abbrev main_v466 : Ref sig .tc := ⟨.hbm, 526, rfl⟩
abbrev main_v467 : Ref sig .tc := ⟨.hbm, 527, rfl⟩
abbrev main_v468 : Ref sig .tc := ⟨.hbm, 528, rfl⟩
abbrev main_v469 : Ref sig .tc := ⟨.hbm, 529, rfl⟩
abbrev main_v470 : Ref sig .tc := ⟨.hbm, 530, rfl⟩
abbrev main_v471 : Ref sig .tc := ⟨.hbm, 531, rfl⟩
abbrev main_v472 : Ref sig .tc := ⟨.hbm, 532, rfl⟩
abbrev main_v473 : Ref sig .tc := ⟨.hbm, 533, rfl⟩
abbrev main_v474 : Ref sig .tc := ⟨.hbm, 534, rfl⟩
abbrev main_v475 : Ref sig .tc := ⟨.hbm, 535, rfl⟩
abbrev main_v476 : Ref sig .tc := ⟨.hbm, 536, rfl⟩
abbrev main_v477 : Ref sig .tc := ⟨.hbm, 537, rfl⟩
abbrev main_v478 : Ref sig .tc := ⟨.hbm, 538, rfl⟩
abbrev main_v479 : Ref sig .tc := ⟨.hbm, 539, rfl⟩
abbrev main_v480 : Ref sig .tc := ⟨.hbm, 540, rfl⟩
abbrev main_v481 : Ref sig .tc := ⟨.hbm, 541, rfl⟩
abbrev main_v482 : Ref sig .tc := ⟨.hbm, 542, rfl⟩
abbrev main_v483 : Ref sig .tc := ⟨.hbm, 543, rfl⟩
abbrev main_v484 : Ref sig .tc := ⟨.hbm, 544, rfl⟩
abbrev main_v485 : Ref sig .tc := ⟨.hbm, 545, rfl⟩
abbrev main_v486 : Ref sig .tc := ⟨.hbm, 546, rfl⟩
abbrev main_v487 : Ref sig .tc := ⟨.hbm, 547, rfl⟩
abbrev main_v488 : Ref sig .tc := ⟨.hbm, 548, rfl⟩
abbrev main_v489 : Ref sig .tc := ⟨.hbm, 549, rfl⟩
abbrev main_v490 : Ref sig .tc := ⟨.hbm, 550, rfl⟩
abbrev main_v491 : Ref sig .tc := ⟨.hbm, 551, rfl⟩
abbrev main_v492 : Ref sig .tc := ⟨.hbm, 552, rfl⟩
abbrev main_v493 : Ref sig .tc := ⟨.hbm, 553, rfl⟩
abbrev main_v494 : Ref sig .tc := ⟨.hbm, 554, rfl⟩
abbrev main_v495 : Ref sig .tc := ⟨.hbm, 555, rfl⟩
abbrev main_v496 : Ref sig .tc := ⟨.hbm, 556, rfl⟩
abbrev main_v497 : Ref sig .tc := ⟨.hbm, 557, rfl⟩
abbrev main_v498 : Ref sig .tc := ⟨.hbm, 558, rfl⟩
abbrev main_v499 : Ref sig .tc := ⟨.hbm, 559, rfl⟩
abbrev main_v500 : Ref sig .tc := ⟨.hbm, 560, rfl⟩
abbrev main_v501 : Ref sig .tc := ⟨.hbm, 561, rfl⟩
abbrev main_v502 : Ref sig .tc := ⟨.hbm, 562, rfl⟩
abbrev main_v503 : Ref sig .tc := ⟨.hbm, 563, rfl⟩
abbrev main_v504 : Ref sig .tc := ⟨.hbm, 564, rfl⟩
abbrev main_v505 : Ref sig .tc := ⟨.hbm, 565, rfl⟩
abbrev main_v506 : Ref sig .tc := ⟨.hbm, 566, rfl⟩
abbrev main_v507 : Ref sig .tc := ⟨.hbm, 567, rfl⟩
abbrev main_v508 : Ref sig .tc := ⟨.hbm, 568, rfl⟩
abbrev main_v509 : Ref sig .tc := ⟨.hbm, 569, rfl⟩
abbrev main_v510 : Ref sig .tc := ⟨.hbm, 570, rfl⟩
abbrev main_v511 : Ref sig .tc := ⟨.hbm, 571, rfl⟩
abbrev main_v512 : Ref sig .tc := ⟨.hbm, 572, rfl⟩
abbrev main_v513 : Ref sig .tc := ⟨.hbm, 573, rfl⟩
abbrev main_v514 : Ref sig .tc := ⟨.hbm, 574, rfl⟩
abbrev main_v515 : Ref sig .tc := ⟨.hbm, 575, rfl⟩
abbrev main_v516 : Ref sig .tc := ⟨.hbm, 576, rfl⟩
abbrev main_v517 : Ref sig .tc := ⟨.hbm, 577, rfl⟩
abbrev main_v518 : Ref sig .tc := ⟨.hbm, 578, rfl⟩
abbrev main_v519 : Ref sig .tc := ⟨.hbm, 579, rfl⟩
abbrev main_v520 : Ref sig .tc := ⟨.hbm, 580, rfl⟩
abbrev main_v521 : Ref sig .tc := ⟨.hbm, 581, rfl⟩
abbrev main_v522 : Ref sig .tc := ⟨.hbm, 582, rfl⟩
abbrev main_v523 : Ref sig .tc := ⟨.hbm, 583, rfl⟩
abbrev main_v524 : Ref sig .tc := ⟨.hbm, 584, rfl⟩
abbrev main_v525 : Ref sig .tc := ⟨.hbm, 585, rfl⟩
abbrev main_v526 : Ref sig .tc := ⟨.hbm, 586, rfl⟩
abbrev main_v527 : Ref sig .tc := ⟨.hbm, 587, rfl⟩
abbrev main_cst_36 : Ref sig .tc := ⟨.hbm, 588, rfl⟩
abbrev main_v528 : Ref sig .tc := ⟨.hbm, 589, rfl⟩
abbrev main_v529 : Ref sig .tc := ⟨.hbm, 590, rfl⟩
abbrev main_v530 : Ref sig .tc := ⟨.hbm, 591, rfl⟩
abbrev main_v531 : Ref sig .tc := ⟨.hbm, 592, rfl⟩
abbrev main_v532 : Ref sig .tc := ⟨.hbm, 593, rfl⟩
abbrev main_v533 : Ref sig .tc := ⟨.hbm, 594, rfl⟩
abbrev main_v534 : Ref sig .tc := ⟨.hbm, 595, rfl⟩
abbrev main_v535 : Ref sig .tc := ⟨.hbm, 596, rfl⟩
abbrev main_v536 : Ref sig .tc := ⟨.hbm, 597, rfl⟩
abbrev main_v537 : Ref sig .tc := ⟨.hbm, 598, rfl⟩
abbrev main_cst_37 : Ref sig .tc := ⟨.hbm, 599, rfl⟩
abbrev main_v538 : Ref sig .tc := ⟨.hbm, 600, rfl⟩
abbrev main_v539 : Ref sig .tc := ⟨.hbm, 601, rfl⟩
abbrev main_cst_38 : Ref sig .tc := ⟨.hbm, 602, rfl⟩
abbrev main_v540 : Ref sig .tc := ⟨.hbm, 603, rfl⟩
abbrev main_v541 : Ref sig .tc := ⟨.hbm, 604, rfl⟩
abbrev main_cst_39 : Ref sig .tc := ⟨.hbm, 605, rfl⟩
abbrev main_call7_v0 : Ref sig .tc := ⟨.hbm, 606, rfl⟩
abbrev main_call7_v1 : Ref sig .tc := ⟨.hbm, 607, rfl⟩
abbrev main_v542 : Ref sig .tc := ⟨.hbm, 608, rfl⟩
abbrev main_v543 : Ref sig .tc := ⟨.hbm, 609, rfl⟩
abbrev main_v544 : Ref sig .tc := ⟨.hbm, 610, rfl⟩
abbrev main_v545 : Ref sig .tc := ⟨.hbm, 611, rfl⟩
abbrev main_v546 : Ref sig .tc := ⟨.hbm, 612, rfl⟩
abbrev main_cst_40 : Ref sig .tc := ⟨.hbm, 613, rfl⟩
abbrev main_v547 : Ref sig .tc := ⟨.hbm, 614, rfl⟩
abbrev main_cst_41 : Ref sig .tc := ⟨.hbm, 615, rfl⟩
abbrev main_v548 : Ref sig .tc := ⟨.hbm, 616, rfl⟩
abbrev main_v549 : Ref sig .tc := ⟨.hbm, 617, rfl⟩

abbrev nD : Nat := 1
abbrev τ : Topo := Topo.v7x

variable {F : FTy → Type} [FloatOps F]
-- ==== Proof.Basics.lean ====
module

public import Idealize.ShloMosaic.Lib.Pointwise
public import Idealize.ShloMosaic.PureOps.Ideal

/-! # Sums, maxima and quotients of finite numbers among the extended reals -/

@[expose] public section

noncomputable section

namespace Cert.Proof

open Idealize.ShloMosaic

/-- The finite sum of real numbers, read among the extended reals, is the sum of the readings. -/
theorem coe_fsum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum over `a * b` positions is the sum over `a` groups of `b` neighbours. -/
theorem sum_groups {M : Type} [AddCommMonoid M] (a b n : ℕ) (hn : n = a * b) (f : ℕ → M) :
    (∑ q : Fin n, f q) = ∑ i : Fin a, ∑ j : Fin b, f (b * i + j) := by
  subst hn
  rw [← finProdFinEquiv.sum_comp (fun q : Fin (a * b) => f q), Fintype.sum_prod_type]
  refine Finset.sum_congr rfl fun i _ => Finset.sum_congr rfl fun j _ => ?_
  rw [finProdFinEquiv_apply_val, add_comm]

/-- Of a sum in which every term but the one at `m` is zero, that term is left. -/
theorem sum_at {M : Type} [AddCommMonoid M] {n : ℕ} (m : ℕ) (hm : m < n) (f : ℕ → M) :
    (∑ q : Fin n, if m = (q : ℕ) then f q else 0) = f m := by
  rw [Finset.sum_eq_single (⟨m, hm⟩ : Fin n)]
  · simp
  · intro q _ hq
    rw [if_neg]
    intro h
    exact hq (Fin.ext h.symm)
  · intro h
    exact absurd (Finset.mem_univ _) h

/-- Division of one real number by a second that is not zero. -/
theorem div_real (a b : ℝ) (hb : b ≠ 0) : Ideal.div (a : EReal) (b : EReal) = ((a / b : ℝ) : EReal) := by
  rw [Ideal.div_coe hb, ← EReal.coe_mul]
  congr 1
  ring

/-- The larger of two real numbers, read among the extended reals. -/
theorem max_real (a b : ℝ) : max (a : EReal) (b : EReal) = ((max a b : ℝ) : EReal) :=
  (EReal.coe_strictMono.monotone.map_max).symm

/-- The smaller of two real numbers, read among the extended reals. -/
theorem min_real (a b : ℝ) : min (a : EReal) (b : EReal) = ((min a b : ℝ) : EReal) :=
  (EReal.coe_strictMono.monotone.map_min).symm

/-- The largest of the first `n` values of `f`. -/
def top (n : ℕ) [NeZero n] (f : ℕ → ℝ) : ℝ :=
  Finset.univ.sup' ⟨(0 : Fin n), Finset.mem_univ _⟩ fun i : Fin n => f i

/-- The largest of finitely many real numbers, begun at minus infinity, is their maximum. -/
theorem fold_max_real (n : ℕ) [NeZero n] (f : ℕ → ℝ) :
    (Finset.univ.fold max (⊥ : EReal) fun i : Fin n => ((f i : ℝ) : EReal)) = ((top n f : ℝ) : EReal) := by
  have h : (Finset.univ.fold max (⊥ : EReal) fun i : Fin n => ((f i : ℝ) : EReal))
      = Finset.univ.sup fun i : Fin n => ((f i : ℝ) : EReal) := rfl
  rw [h, ← Finset.sup'_eq_sup ⟨(0 : Fin n), Finset.mem_univ _⟩]
  exact (Finset.comp_sup'_eq_sup'_comp ⟨(0 : Fin n), Finset.mem_univ _⟩ (fun r : ℝ => (r : EReal))
    (fun x y => (max_real x y).symm)).symm

/-- The largest of finitely many extended reals, none of them plus infinity and one of them a real number, begun at
    minus infinity, is a real number. -/
theorem fold_max_finite {n : ℕ} (f : Fin n → EReal) (ht : ∀ i, f i ≠ ⊤) (i : Fin n) (hi : f i ≠ ⊥) :
    ∃ M : ℝ, (Finset.univ.fold max (⊥ : EReal) f) = ((M : ℝ) : EReal) := by
  have h : (Finset.univ.fold max (⊥ : EReal) f) = Finset.univ.sup f := rfl
  rw [h]
  have hb : Finset.univ.sup f ≠ ⊥ := fun hc => hi (le_bot_iff.mp (hc ▸ Finset.le_sup (f := f) (Finset.mem_univ i)))
  have hlt : Finset.univ.sup f ≠ ⊤ := ne_of_lt ((Finset.sup_lt_iff (by simp)).mpr fun j _ => lt_top_iff_ne_top.mpr (ht j))
  exact ⟨(Finset.univ.sup f).toReal, (EReal.coe_toReal hlt hb).symm⟩

/-- The comparison "greater" of two real numbers as a condition. -/
theorem cmp_gt_real (a b : ℝ) : Ideal.cmp .ogt (a : EReal) (b : EReal) = if b < a then 1#1 else 0#1 := by
  simp only [Ideal.cmp, EReal.coe_lt_coe_iff]
  by_cases h : b < a <;> simp [h]

/-- The comparison "at least" of two real numbers as a condition. -/
theorem cmp_ge_real (a b : ℝ) : Ideal.cmp .oge (a : EReal) (b : EReal) = if b ≤ a then 1#1 else 0#1 := by
  simp only [Ideal.cmp, EReal.coe_le_coe_iff]
  by_cases h : b ≤ a <;> simp [h]

end Cert.Proof

end
-- ==== Proof.Model.lean ====
module

public import proofs.«01_k».proof.Proof.Basics

/-! # The network over the real numbers

What both programs compute, as real numbers, of arguments that are real numbers. Positions are natural numbers. -/

@[expose] public section

noncomputable section

namespace Cert.Proof

open Idealize.ShloMosaic

/-- The arguments: the signal, the temporal filters, the three affine normalisations, the projection, the two attention
    vectors, the bias of the attention layer, the second convolution, and the ends of the edges. -/
structure Net where
  x : ℕ → ℕ → ℕ → ℝ
  w1 : ℕ → ℕ → ℝ
  g1 : ℕ → ℝ
  b1 : ℕ → ℝ
  W : ℕ → ℕ → ℝ
  ats : ℕ → ℕ → ℝ
  atd : ℕ → ℕ → ℝ
  bias : ℕ → ℝ
  gg : ℕ → ℝ
  bg : ℕ → ℝ
  w3 : ℕ → ℕ → ℕ → ℝ
  g3 : ℕ → ℝ
  b3 : ℕ → ℝ
  src : ℕ → ℕ
  dst : ℕ → ℕ
  src_lt : ∀ e, src e < 22
  dst_lt : ∀ e, dst e < 22

/-- The square root of one plus the normalisation's `1e-5`, as rounded. -/
def root : ℝ := Real.sqrt (8388692 / 8388608)

/-- The slope of the leaky rectifier below zero: the rounded `0.2`. -/
def slope : ℝ := 13421773 / 67108864

/-- The guard of the softmax's denominator: the rounded `1e-16`. -/
def tiny : ℝ := 15111573 / 151115727451828646838272

theorem root_pos : 0 < root := Real.sqrt_pos.mpr (by norm_num)

theorem tiny_pos : 0 < tiny := by norm_num [tiny]

/-- The leaky rectifier. -/
def leaky (v : ℝ) : ℝ := if 0 ≤ v then v else slope * v

/-- The exponential linear unit. -/
def elu (v : ℝ) : ℝ := if 0 < v then v else Real.exp v - 1

namespace Net

variable (N : Net)

/-- The signal with fifteen zeros before it and zeros after it. -/
def xp (b n s : ℕ) : ℝ := if 15 ≤ s ∧ s < 1015 then N.x b n (s - 15) else 0

/-- The temporal convolution, normalised. -/
def conv (b f n t : ℕ) : ℝ := (∑ k : Fin 32, N.xp b n (k + t) * N.w1 f k) * (N.g1 f / root) + N.b1 f

/-- The projection of a node's features. -/
def hw (b n t o : ℕ) : ℝ := ∑ f : Fin 16, N.conv b f n t * N.W f o

/-- A node's score as a source. -/
def aS (b n t h : ℕ) : ℝ := ∑ d : Fin 8, N.hw b n t (h * 8 + d) * N.ats h d

/-- A node's score as a destination. -/
def aD (b n t h : ℕ) : ℝ := ∑ d : Fin 8, N.hw b n t (h * 8 + d) * N.atd h d

/-- An edge's score. -/
def e (b j t h : ℕ) : ℝ := leaky (N.aS b (N.src j) t h + N.aD b (N.dst j) t h)

/-- The bound of all edges' scores. -/
def cb (b t h : ℕ) : ℝ := leaky (top 22 (fun n => N.aS b n t h) + top 22 (fun n => N.aD b n t h))

/-- An edge's weight before it is normalised. -/
def ee (b j t h : ℕ) : ℝ := Real.exp (N.e b j t h - N.cb b t h)

/-- The sum of the weights of the edges that end at a node. -/
def den (b n t h : ℕ) : ℝ := ∑ j : Fin 110, if n = N.dst j then N.ee b j t h else 0

/-- An edge's share of its destination. -/
def al (b j t h : ℕ) : ℝ := N.ee b j t h / (N.den b (N.dst j) t h + tiny)

/-- The sum over all edges of the source's features, weighed by the edge's share. -/
def agg (b o t : ℕ) : ℝ := ∑ j : Fin 110, N.hw b (N.src j) t o * N.al b j t (o / 8)

/-- The mean over the nodes, normalised. -/
def z (b o t : ℕ) : ℝ := (N.agg b o t / 22 + N.bias o) * (N.gg o / root) + N.bg o

/-- The first pool: means of eight. -/
def p (b o u : ℕ) : ℝ := (∑ i : Fin 8, elu (N.z b o (u * 8 + i))) / 8

/-- The pooled signal with seven zeros before it and zeros after it. -/
def zp (b o s : ℕ) : ℝ := if 7 ≤ s ∧ s < 132 then N.p b o (s - 7) else 0

/-- The second convolution, normalised. -/
def c3 (b o u : ℕ) : ℝ :=
  (∑ k : Fin 16, ∑ i : Fin 32, N.w3 o i k * N.zp b i (k + u)) * (N.g3 o / root) + N.b3 o

/-- The second pool: means of four. -/
def res (b o v : ℕ) : ℝ := (∑ i : Fin 4, elu (N.c3 b o (v * 4 + i))) / 4

theorem ee_pos (b j t h : ℕ) : 0 < N.ee b j t h := Real.exp_pos _

theorem den_nonneg (b n t h : ℕ) : 0 ≤ N.den b n t h :=
  Finset.sum_nonneg fun j _ => by split <;> [exact (N.ee_pos b j t h).le; exact le_rfl]

theorem den_tiny_pos (b n t h : ℕ) : 0 < N.den b n t h + tiny := add_pos_of_nonneg_of_pos (N.den_nonneg b n t h) tiny_pos

end Net

/-- The arrays hold the network's numbers. -/
structure Reads (N : Net) (a0 : (⟨4, ![16, 1, 22, 1000]⟩ : Shape).Idx → EReal) (a1 : (⟨4, ![16, 1, 1, 32]⟩ : Shape).Idx → EReal)
    (a2 a3 : (⟨1, ![16]⟩ : Shape).Idx → EReal) (a4 : (⟨2, ![16, 32]⟩ : Shape).Idx → EReal)
    (a5 a6 : (⟨2, ![4, 8]⟩ : Shape).Idx → EReal) (a7 a8 a9 : (⟨1, ![32]⟩ : Shape).Idx → EReal)
    (a10 : (⟨4, ![32, 32, 1, 16]⟩ : Shape).Idx → EReal) (a11 a12 : (⟨1, ![32]⟩ : Shape).Idx → EReal)
    (a13 : (⟨2, ![2, 110]⟩ : Shape).Idx → BitVec 32) : Prop where
  x : ∀ b z n t, a0 (ix4 b z n t) = ((N.x b n t : ℝ) : EReal)
  w1 : ∀ f z z' k, a1 (ix4 f z z' k) = ((N.w1 f k : ℝ) : EReal)
  g1 : ∀ f, a2 (ix1 f) = ((N.g1 f : ℝ) : EReal)
  b1 : ∀ f, a3 (ix1 f) = ((N.b1 f : ℝ) : EReal)
  W : ∀ f o, a4 (ix2 f o) = ((N.W f o : ℝ) : EReal)
  ats : ∀ h d, a5 (ix2 h d) = ((N.ats h d : ℝ) : EReal)
  atd : ∀ h d, a6 (ix2 h d) = ((N.atd h d : ℝ) : EReal)
  bias : ∀ o, a7 (ix1 o) = ((N.bias o : ℝ) : EReal)
  gg : ∀ o, a8 (ix1 o) = ((N.gg o : ℝ) : EReal)
  bg : ∀ o, a9 (ix1 o) = ((N.bg o : ℝ) : EReal)
  w3 : ∀ o i z k, a10 (ix4 o i z k) = ((N.w3 o i k : ℝ) : EReal)
  g3 : ∀ o, a11 (ix1 o) = ((N.g3 o : ℝ) : EReal)
  b3 : ∀ o, a12 (ix1 o) = ((N.b3 o : ℝ) : EReal)
  src : ∀ e, a13 (ix2 0 e) = BitVec.ofNat 32 (N.src e)
  dst : ∀ e, a13 (ix2 1 e) = BitVec.ofNat 32 (N.dst e)

/-! ### The constants -/

theorem bits_root : Ideal.sqrt (Ideal.ofBits .f32 0x3F800054#32) = ((root : ℝ) : EReal) := by
  have h : Ideal.ofBits .f32 0x3F800054#32 = (((8388692 / 8388608 : ℝ)) : EReal) := by
    norm_num [Ideal.ofBits, Ideal.ieee, BitVec.extractLsb', Nat.shiftRight_eq_div_pow]
  rw [h, Ideal.sqrt_coe, if_neg (by norm_num)]
  rfl

theorem bits_slope : Ideal.ofBits .f32 0x3E4CCCCD#32 = ((slope : ℝ) : EReal) := by
  norm_num [Ideal.ofBits, Ideal.ieee, slope, BitVec.extractLsb', Nat.shiftRight_eq_div_pow]

theorem bits_tiny : Ideal.ofBits .f32 0x24E69595#32 = ((tiny : ℝ) : EReal) := by
  norm_num [Ideal.ofBits, Ideal.ieee, tiny, BitVec.extractLsb', Nat.shiftRight_eq_div_pow]

theorem bits_22 : Ideal.ofBits .f32 0x41B00000#32 = ((22 : ℝ) : EReal) := by
  norm_num [Ideal.ofBits, Ideal.ieee, BitVec.extractLsb', Nat.shiftRight_eq_div_pow]

theorem bits_8 : Ideal.ofBits .f32 0x41000000#32 = ((8 : ℝ) : EReal) := by
  norm_num [Ideal.ofBits, Ideal.ieee, BitVec.extractLsb', Nat.shiftRight_eq_div_pow]

theorem bits_4 : Ideal.ofBits .f32 0x40800000#32 = ((4 : ℝ) : EReal) := by
  norm_num [Ideal.ofBits, Ideal.ieee, BitVec.extractLsb', Nat.shiftRight_eq_div_pow]

theorem bits_bot : Ideal.ofBits .f32 0xFF800000#32 = (⊥ : EReal) := by
  norm_num [Ideal.ofBits, Ideal.ieee, BitVec.extractLsb', Nat.shiftRight_eq_div_pow]

theorem bits_one : Ideal.ofBits .f32 0x3F800000#32 = ((1 : ℝ) : EReal) := by
  norm_num [Ideal.ofBits, Ideal.ieee, BitVec.extractLsb', Nat.shiftRight_eq_div_pow]

end Cert.Proof

end
-- ==== Proof.KerWin.lean ====
module

public import proofs.«01_k».proof.Proof.Model
public import proofs.«01_k».proof.Proof.Gen.KernelIdeal.Skeleton
public import Idealize.ShloMosaic.Lib.Pointwise
public import Idealize.ShloMosaic.Lib.Tactic.CleanTypes

/-! # The kernel's first product -/

@[expose] public section

noncomputable section

namespace Cert.Proof.Ker

open Idealize.ShloMosaic Cert.KernelIdeal Cert.KernelIdeal.Gen Cert.KernelIdeal.Facts

/-- Where a block's lane begins in the two padded signals laid end to end. -/
def lane (l : ℕ) : ℕ := if l < 1000 then l else l + 32

theorem lane_lt {l : ℕ} (h : l < 2000) (k : ℕ) (hk : k < 32) : k + lane l < 2064 := by unfold lane; split <;> omega

/-- A window: the two signals' thousand lanes from position `k` on, side by side, at a lane. -/
theorem window {f : ℕ → ℕ → ℝ} {v : FVec Ideal S22x2064 .f32} (hv : ∀ n s, v (ix2 n s) = ((f n s : ℝ) : EReal))
    (k k' : ℕ) (hk : k < 32) (hk' : k' = k + 1032) (h1 : Shape.Slices S22x2064 ![0, k] S22x1000)
    (h2 : Shape.Slices S22x2064 ![0, k'] S22x1000) (hc : Shape.Concatenates [S22x1000, S22x1000] S22x2000 1)
    (n : Fin 22) (l : Fin 2000) :
    concatenate S22x2000 1 [⟨S22x1000, extractStridedSlice S22x1000 ![0, k] v h1⟩,
      ⟨S22x1000, extractStridedSlice S22x1000 ![0, k'] v h2⟩] hc (ix2 n l) = ((f n (k + lane l) : ℝ) : EReal) := by
  subst hk'
  pointwise
  unfold lane
  split
  · exact hv _ _
  · rw [hv]
    congr 2
    show k + 1032 + (l - 1000) = k + (l + 32)
    omega

/-- The arrays of a list have the values of the windows from window `k` on. -/
def Windows {a b : ℕ} (F : ℕ → ℕ → ℕ → ℝ) : ℕ → List ((⟨2, ![a, b]⟩ : Shape).Idx → EReal) → Prop
  | _, [] => True
  | k, x :: xs => (∀ (n : Fin a) (l : Fin b), x (ix2 n l) = ((F k n l : ℝ) : EReal)) ∧ Windows F (k + 1) xs

theorem Windows.get {a b : ℕ} {F : ℕ → ℕ → ℕ → ℝ} :
    ∀ {xs : List ((⟨2, ![a, b]⟩ : Shape).Idx → EReal)} {k : ℕ}, Windows F k xs →
    ∀ (i : ℕ) (hi : i < xs.length) (n : Fin a) (l : Fin b), xs[i] (ix2 n l) = ((F (k + i) n l : ℝ) : EReal)
  | _ :: _, k, h, 0, _, n, l => h.1 n l
  | _ :: _, k, h, i + 1, hi, n, l => by
    rw [List.getElem_cons_succ, Windows.get h.2 i (by simpa using hi), Nat.add_assoc k 1 i, Nat.add_comm 1 i]

/-- A list of arrays as pieces of a concatenation. -/
abbrev pieces {a b : ℕ} (xs : List ((⟨2, ![a, b]⟩ : Shape).Idx → EReal)) : List ((s : Shape) × (s.Idx → EReal)) :=
  xs.map fun x => ⟨⟨2, ![a, b]⟩, x⟩

theorem pieces_ofFn {a b : ℕ} (xs : List ((⟨2, ![a, b]⟩ : Shape).Idx → EReal)) :
    pieces xs = List.ofFn fun k : Fin xs.length => (⟨⟨2, ![a, b]⟩, xs[k]⟩ : (s : Shape) × (s.Idx → EReal)) := by
  apply List.ext_getElem <;> simp

/-- Windows of `a` rows each, stacked: row `a k + n` is row `n` of window `k`. -/
theorem stacked {a b m : ℕ} {F : ℕ → ℕ → ℕ → ℝ} (xs : List ((⟨2, ![a, b]⟩ : Shape).Idx → EReal)) (ha : 0 < a)
    (hl : m = a * xs.length) (hW : Windows F 0 xs)
    (h : Shape.Concatenates ((pieces xs).map (·.1)) (⟨2, ![m, b]⟩ : Shape) 0) (q : Fin m) (l : Fin b) :
    concatenate (⟨2, ![m, b]⟩ : Shape) 0 (pieces xs) h (ix2 q l) = ((F (q / a) (q % a) l : ℝ) : EReal) := by
  have hq : (q : ℕ) / a < xs.length := (Nat.div_lt_iff_lt_mul ha).mpr (by rw [Nat.mul_comm, ← hl]; exact q.isLt)
  have key : ∀ (ps : List ((s : Shape) × (s.Idx → EReal))) (h : Shape.Concatenates (ps.map (·.1)) (⟨2, ![m, b]⟩ : Shape) 0),
      ps = (List.ofFn fun k : Fin xs.length => (⟨⟨2, ![a, b]⟩, xs[k]⟩ : (s : Shape) × (s.Idx → EReal))) →
      concatenate (⟨2, ![m, b]⟩ : Shape) 0 ps h (ix2 q l) = ((F (q / a) (q % a) l : ℝ) : EReal) := by
    rintro ps h rfl
    rw [concatenate_ofFn_apply 0 (fun k : Fin xs.length => xs[k]) h rfl a rfl (ix2 q l) ⟨q / a, hq⟩ rfl
      (ix2 ⟨q % a, Nat.mod_lt _ ha⟩ l) rfl (by
        intro b hb
        fin_cases b
        · exact absurd rfl hb
        · rfl)]
    have := hW.get (q / a) hq ⟨q % a, Nat.mod_lt _ ha⟩ l
    rw [Nat.zero_add] at this
    exact this
  exact key _ h (pieces_ofFn xs)

/-- The first product's inputs: the padded signals of a block, the product's matrix and its bias. -/
structure In1 (f : ℕ → ℕ → ℝ) (G : ℕ → ℕ → ℝ) (c : ℕ → ℝ) (w : Vec Ideal S1x22x2064 .f32) (g : Vec Ideal S880x704 .f32)
    (d : Vec Ideal S880x1 .f32) : Prop where
  x : ∀ n s, w (ix3 0 n s) = ((f n s : ℝ) : EReal)
  G : ∀ r q, g (ix2 r q) = ((G r q : ℝ) : EReal)
  c : ∀ r, d (ix2 r 0) = ((c r : ℝ) : EReal)

/-- The first product as real numbers. -/
def nf (f G : ℕ → ℕ → ℝ) (c : ℕ → ℝ) (r l : ℕ) : ℝ := (∑ q : Fin 704, G r q * f (q % 22) (q / 22 + lane l)) + c r

section

variable {f G : ℕ → ℕ → ℝ} {c : ℕ → ℝ} {w : Vec Ideal S1x22x2064 .f32} {g : Vec Ideal S880x704 .f32}
  {d : Vec Ideal S880x1 .f32} (H : In1 f G c w g d)

include H

theorem sig (n : Fin 22) (s : Fin 2064) : k0_pay2 w (ix2 n s) = ((f n s : ℝ) : EReal) := by
  unfold k0_pay2
  pointwise
  exact H.x _ _

set_option maxHeartbeats 1000000 in
/-- The first product at an index. -/
theorem prod1 (r : Fin 880) (l : Fin 2000) :
    k0_pay21 (k0_pay2 w) (k0_pay3 w) (k0_pay4 w) (k0_pay5 w) (k0_pay6 w) (k0_pay7 w) (k0_pay8 w) (k0_pay9 w) (k0_pay10 w) (k0_pay11 w) (k0_pay12 w) (k0_pay13 w) (k0_pay14 w) (k0_pay15 w) (k0_pay16 w) (k0_pay17 w) (k0_pay18 w) (k0_pay19 w) (k0_pay20 w) g d (ix2 r l) = ((nf f G c r l : ℝ) : EReal) := by
  unfold k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21
  dsimp only
  generalize hv : k0_pay2 w = v
  have sv : ∀ n s, v (ix2 n s) = ((f n s : ℝ) : EReal) := hv ▸ sig H
  generalize hP : concatenate S704x2000 0 _ _ = P
  have hPv : ∀ (q : Fin 704) (l : Fin 2000), P (ix2 q l) = ((f (q % 22) (q / 22 + lane l) : ℝ) : EReal) := by
    intro q l
    subst hP
    refine stacked (a := 22) (F := fun k n l => f n (k + lane l)) [_, _, _, _, _, _, _, _, _, _, _, _, _, _, _, _, _, _, _, _, _, _, _, _, _, _, _, _, _, _, _, _]
      (by norm_num) rfl ?_ _ q l
    refine ⟨?_, ?_, ?_, ?_, ?_, ?_, ?_, ?_, ?_, ?_, ?_, ?_, ?_, ?_, ?_, ?_, ?_, ?_, ?_, ?_, ?_, ?_, ?_, ?_, ?_, ?_, ?_, ?_,
      ?_, ?_, ?_, ?_, trivial⟩
    all_goals exact window sv _ _ (by norm_num) rfl _ _ _
  clear hP
  clean_types
  pointwise [dot_S880x704_S704x2000_S880x2000_1_0_0_1_n_n]
  simp only [hPv, H.G, H.c, nf, ← EReal.coe_mul, coe_fsum, ← EReal.coe_add]

end

end Cert.Proof.Ker
-- ==== Proof.KerMask.lean ====
module

public import proofs.«01_k».proof.Proof.Model
public import proofs.«01_k».proof.Proof.Gen.KernelIdeal.Skeleton
public import Idealize.ShloMosaic.Lib.Pointwise
public import Idealize.ShloMosaic.Lib.Tactic.CleanTypes

/-! # The kernel's tables of the edges' ends -/

@[expose] public section

noncomputable section

namespace Cert.Proof.Ker

open Idealize.ShloMosaic Cert.KernelIdeal Cert.KernelIdeal.Gen Cert.KernelIdeal.Facts

/-- One where an edge's row and a node's column belong to one head and the edge's end is the node. -/
def hot (g : ℕ → ℕ) (r c : ℕ) : ℝ := if r / 110 = c / 22 ∧ c % 22 = g (r % 110) then 1 else 0

/-- A test of two node numbers and of a condition, as a number. -/
theorem flag (P : Prop) [Decidable P] (a b : ℕ) (ha : a < 22) (hb : b < 22) :
    (FloatOps.sitofp (F := Ideal) .f32 (BitVec.setWidth 32 (IntOp.andi (if P then 1#1 else 0#1)
      (IntOp.cmpi .eq (BitVec.ofNat 32 a) (BitVec.ofNat 32 b)))) : EReal) = ((if P ∧ a = b then 1 else 0 : ℝ) : EReal) := by
  have h : IntOp.cmpi .eq (BitVec.ofNat 32 a) (BitVec.ofNat 32 b) = if a = b then 1#1 else 0#1 := by
    obtain ⟨a', rfl⟩ : ∃ a' : Fin 22, a = a' := ⟨⟨a, ha⟩, rfl⟩
    obtain ⟨b', rfl⟩ : ∃ b' : Fin 22, b = b' := ⟨⟨b, hb⟩, rfl⟩
    clear ha hb
    revert a' b'
    decide +kernel
  rw [h]
  show (((_ : BitVec 32).toInt : ℝ) : EReal) = _
  by_cases hP : P <;> by_cases hab : a = b <;> simp [hP, hab, IntOp.andi]

/-- Four copies of a column laid end to end. -/
theorem four {α : Type} (y : Fin 110 → α) (r : ℕ) (h : r < 440) :
    (if h : r < 110 then y ⟨r, h⟩
      else if h1 : r - 110 < 110 then y ⟨r - 110, h1⟩
      else if h2 : r - 110 - 110 < 110 then y ⟨r - 110 - 110, h2⟩
      else y ⟨r - 110 - 110 - 110, by omega⟩) = y ⟨r % 110, Nat.mod_lt _ (by norm_num)⟩ := by
  split
  · congr 2; omega
  · split
    · congr 2; omega
    · split
      · congr 2; omega
      · congr 2; omega

/-- A row's head. -/
theorem row_head (r : Fin 440) (c : Fin 88) : k0_pay31 (ix2 r c) = BitVec.ofNat 32 (r / 110) := by
  unfold k0_pay31
  pointwise
  revert r
  decide +kernel

/-- A column's node. -/
theorem col_node (r : Fin 440) (c : Fin 88) : k0_pay34 (ix2 r c) = BitVec.ofNat 32 (c % 22) := by
  unfold k0_pay34
  pointwise
  revert c
  decide +kernel

/-- Whether a row's head is its column's. -/
theorem heads (r : Fin 440) (c : Fin 88) :
    k0_pay35 k0_pay31 (iota .tc S440x88 32 [1] iota_S440x88_d1_w32) 22#32 k0_pay32 k0_pay33 0#32 (ix2 r c)
      = if (r : ℕ) / 110 = c / 22 then 1#1 else 0#1 := by
  unfold k0_pay35 k0_pay32 k0_pay33
  pointwise
  rw [row_head]
  obtain ⟨a, ha⟩ : ∃ a : Fin 4, (r : ℕ) / 110 = a := ⟨⟨r / 110, by omega⟩, rfl⟩
  rw [ha]
  clear ha r
  revert a c
  decide +kernel

/-- A row's node. -/
theorem row_node (c : Fin 88) (r : Fin 440) : k0_pay41 (ix2 c r) = BitVec.ofNat 32 (c % 22) := by
  unfold k0_pay41
  pointwise
  revert c
  decide +kernel

/-- A node's row's head. -/
theorem node_head (c : Fin 88) (r : Fin 440) :
    k0_pay40 (iota .tc S88x440 32 [0] iota_S88x440_d0_w32) 22#32 k0_pay38 k0_pay39 (ix2 c r) = BitVec.ofNat 32 (c / 22) := by
  unfold k0_pay40 k0_pay38 k0_pay39
  pointwise
  revert c
  decide +kernel

/-- Whether an edge's column's head is the row's. -/
theorem heads' (c : Fin 88) (r : Fin 440) :
    k0_pay44 (k0_pay40 (iota .tc S88x440 32 [0] iota_S88x440_d0_w32) 22#32 k0_pay38 k0_pay39)
      (iota .tc S88x440 32 [1] iota_S88x440_d1_w32) 110#32 k0_pay42 k0_pay43 (ix2 c r)
      = if (r : ℕ) / 110 = c / 22 then 1#1 else 0#1 := by
  unfold k0_pay44 k0_pay42 k0_pay43
  pointwise
  rw [node_head]
  obtain ⟨a, ha⟩ : ∃ a : Fin 4, (c : ℕ) / 22 = a := ⟨⟨c / 22, by omega⟩, rfl⟩
  rw [ha]
  clear ha c
  revert a r
  decide +kernel

variable {g : ℕ → ℕ} (hg : ∀ e, g e < 22)

include hg

/-- The table of the edges' sources. -/
theorem src_tab (x : Vec Ideal S128x8 .i32) (hx : ∀ e : Fin 110, x (ix2 ⟨e, by omega⟩ 0) = BitVec.ofNat 32 (g e))
    (r : Fin 440) (c : Fin 88) :
    k0_pay36 (F := Ideal) (k0_pay27 x) k0_pay31 (iota .tc S440x88 32 [1] iota_S440x88_d1_w32) 22#32 k0_pay32 k0_pay33 0#32 (ix2 r c)
      = ((hot g r c : ℝ) : EReal) := by
  unfold k0_pay36 k0_pay27 k0_pay26
  pointwise
  rw [heads, col_node, four (fun e => x (ix2 ⟨e, by omega⟩ 0)) r r.isLt, hx]
  exact flag _ _ _ (Nat.mod_lt _ (by norm_num)) (hg _)

/-- The table of the edges' destinations. -/
theorem dst_tab (x : Vec Ideal S128x8 .i32) (hx : ∀ e : Fin 110, x (ix2 ⟨e, by omega⟩ 1) = BitVec.ofNat 32 (g e))
    (r : Fin 440) (c : Fin 88) :
    k0_pay37 (F := Ideal) (k0_pay28 x) k0_pay31 (iota .tc S440x88 32 [1] iota_S440x88_d1_w32) 22#32 k0_pay32 k0_pay33 0#32 (ix2 r c)
      = ((hot g r c : ℝ) : EReal) := by
  unfold k0_pay37 k0_pay28 k0_pay26
  pointwise
  rw [heads, col_node, four (fun e => x (ix2 ⟨e, by omega⟩ 1)) r r.isLt, hx]
  exact flag _ _ _ (Nat.mod_lt _ (by norm_num)) (hg _)

/-- The transposed table of the edges' destinations. -/
theorem dst_tab' (x : Vec Ideal S8x128 .i32) (hx : ∀ e : Fin 110, x (ix2 1 ⟨e, by omega⟩) = BitVec.ofNat 32 (g e))
    (c : Fin 88) (r : Fin 440) :
    k0_pay45 (F := Ideal) (k0_pay30 x) (k0_pay40 (iota .tc S88x440 32 [0] iota_S88x440_d0_w32) 22#32 k0_pay38 k0_pay39) k0_pay41
      (iota .tc S88x440 32 [1] iota_S88x440_d1_w32) 110#32 k0_pay42 k0_pay43 (ix2 c r) = ((hot g r c : ℝ) : EReal) := by
  unfold k0_pay45 k0_pay30 k0_pay25
  pointwise
  rw [heads', row_node, four (fun e => x (ix2 1 ⟨e, by omega⟩)) r r.isLt, hx]
  exact flag _ _ _ (Nat.mod_lt _ (by norm_num)) (hg _)

/-- The transposed table of the edges' sources. -/
theorem src_tab' (x : Vec Ideal S8x128 .i32) (hx : ∀ e : Fin 110, x (ix2 0 ⟨e, by omega⟩) = BitVec.ofNat 32 (g e))
    (c : Fin 88) (r : Fin 440) :
    k0_pay46 (F := Ideal) (k0_pay29 x) (k0_pay40 (iota .tc S88x440 32 [0] iota_S88x440_d0_w32) 22#32 k0_pay38 k0_pay39) k0_pay41
      (iota .tc S88x440 32 [1] iota_S88x440_d1_w32) 110#32 k0_pay42 k0_pay43 (ix2 c r) = ((hot g r c : ℝ) : EReal) := by
  unfold k0_pay46 k0_pay29 k0_pay25
  pointwise
  rw [heads', row_node, four (fun e => x (ix2 0 ⟨e, by omega⟩)) r r.isLt, hx]
  exact flag _ _ _ (Nat.mod_lt _ (by norm_num)) (hg _)

end Cert.Proof.Ker
-- ==== Proof.Elu.lean ====
module

public import proofs.«01_k».proof.Proof.Model

/-! # The exponential unit as each program writes it -/

@[expose] public section

noncomputable section

namespace Cert.Proof

open Idealize.ShloMosaic

/-- The unit with its exponent cut off by a select. -/
theorem elu_cut (c : EReal) (v : ℝ) :
    (if 0 < (v : EReal) then (v : EReal) else Ideal.exp (if 0 < (v : EReal) then c else (v : EReal)) - 1)
      = ((elu v : ℝ) : EReal) := by
  unfold elu
  by_cases h : 0 < v
  · rw [if_pos (by exact_mod_cast h), if_pos h]
  · rw [if_neg (by exact_mod_cast h), if_neg (by exact_mod_cast h), if_neg h, Ideal.exp_coe, EReal.coe_sub, EReal.coe_one]

/-- The unit with its exponent cut off by a minimum. -/
theorem elu_min (v : ℝ) :
    (if 0 < (v : EReal) then (v : EReal) else Ideal.exp (min (v : EReal) 0) - 1) = ((elu v : ℝ) : EReal) := by
  unfold elu
  by_cases h : 0 < v
  · rw [if_pos (by exact_mod_cast h), if_pos h]
  · rw [if_neg (by exact_mod_cast h), min_eq_left (by exact_mod_cast not_lt.mp h), if_neg h, Ideal.exp_coe, EReal.coe_sub,
      EReal.coe_one]

/-- The leaky unit. -/
theorem leaky_gt (v : ℝ) :
    (if 0 < (v : EReal) then (v : EReal) else Ideal.ofBits .f32 0x3E4CCCCD#32 * (v : EReal)) = ((leaky v : ℝ) : EReal) := by
  rw [bits_slope, ← EReal.coe_mul]
  unfold leaky
  rcases lt_trichotomy 0 v with h | h | h
  · rw [if_pos (by exact_mod_cast h), if_pos h.le]
  · subst h; simp
  · rw [if_neg (by exact_mod_cast h.le.not_gt), if_neg (by exact_mod_cast h.not_ge)]

end Cert.Proof
-- ==== Proof.KerAtt.lean ====
module

public import proofs.«01_k».proof.Proof.KerMask
public import proofs.«01_k».proof.Proof.Elu

/-! # The kernel's attention weights -/

@[expose] public section

noncomputable section

namespace Cert.Proof.Ker

open Idealize.ShloMosaic Cert.KernelIdeal Cert.KernelIdeal.Gen Cert.KernelIdeal.Facts

/-- A table's row picks one node's value. -/
theorem hot_pick {g : ℕ → ℕ} (hg : ∀ e, g e < 22) (F : ℕ → ℝ) (r : ℕ) (hr : r < 440) :
    ∑ c : Fin 88, hot g r c * F c = F (r / 110 * 22 + g (r % 110)) := by
  have := hg (r % 110)
  rw [← sum_at (r / 110 * 22 + g (r % 110)) (n := 88) (by omega) F]
  refine Finset.sum_congr rfl fun c _ => ?_
  unfold hot
  have : (r / 110 = (c : ℕ) / 22 ∧ (c : ℕ) % 22 = g (r % 110)) ↔ r / 110 * 22 + g (r % 110) = c := by omega
  simp only [this, ite_mul, one_mul, zero_mul]

/-- A table's column adds up the edges of one node. -/
theorem hot_sum {g : ℕ → ℕ} (F : ℕ → ℝ) (c : ℕ) (hc : c < 88) :
    ∑ r : Fin 440, hot g r c * F r = ∑ j : Fin 110, if c % 22 = g j then F (110 * (c / 22) + j) else 0 := by
  rw [sum_groups 4 110 440 rfl (fun r => hot g r c * F r),
    Finset.sum_eq_single (⟨c / 22, by omega⟩ : Fin 4)]
  · refine Finset.sum_congr rfl fun j _ => ?_
    unfold hot
    have h1 : (110 * (c / 22) + (j : ℕ)) / 110 = c / 22 := by omega
    have h2 : (110 * (c / 22) + (j : ℕ)) % 110 = j := by omega
    simp only [h1, h2, true_and, ite_mul, one_mul, zero_mul]
  · intro i _ hi
    refine Finset.sum_eq_zero fun j _ => ?_
    unfold hot
    rw [if_neg, zero_mul]
    rintro ⟨h, -⟩
    exact hi (Fin.ext (by simp only; omega))
  · simp

variable {A : ℕ → ℕ → ℝ} {gs gd : ℕ → ℕ} (hs : ∀ e, gs e < 22) (hd : ∀ e, gd e < 22)

/-- The scores of the edges of all heads. -/
def sc (A : ℕ → ℕ → ℝ) (gs gd : ℕ → ℕ) (r l : ℕ) : ℝ :=
  leaky (A (704 + (r / 110 * 22 + gs (r % 110))) l + A (792 + (r / 110 * 22 + gd (r % 110))) l)

/-- The bound of the scores of a row's head. -/
def bd (A : ℕ → ℕ → ℝ) (h l : ℕ) : ℝ :=
  leaky (top 22 (fun n => A (704 + (h * 22 + n)) l) + top 22 (fun n => A (792 + (h * 22 + n)) l))

/-- The bound of one head, as the kernel takes it. -/
theorem head_bound (a d : FVec Ideal S88x2000 .f32)
    (ha : ∀ c l, a (ix2 c l) = ((A (704 + c) l : ℝ) : EReal)) (hdd : ∀ c l, d (ix2 c l) = ((A (792 + c) l : ℝ) : EReal))
    (l : Fin 2000) (h : ℕ) (i : Fin 22 → Fin 88) (hi : ∀ x, (i x : ℕ) = h * 22 + x) :
    (if 0 < (Finset.univ.fold max (Ideal.ofBits .f32 0xFF800000#32) fun x => (a (ix2 (i x) l) : EReal))
          + (Finset.univ.fold max (Ideal.ofBits .f32 0xFF800000#32) fun x => (d (ix2 (i x) l) : EReal)) then
        (Finset.univ.fold max (Ideal.ofBits .f32 0xFF800000#32) fun x => (a (ix2 (i x) l) : EReal))
          + (Finset.univ.fold max (Ideal.ofBits .f32 0xFF800000#32) fun x => (d (ix2 (i x) l) : EReal))
      else Ideal.ofBits .f32 0x3E4CCCCD#32 *
        ((Finset.univ.fold max (Ideal.ofBits .f32 0xFF800000#32) fun x => (a (ix2 (i x) l) : EReal))
          + (Finset.univ.fold max (Ideal.ofBits .f32 0xFF800000#32) fun x => (d (ix2 (i x) l) : EReal))))
      = ((bd A h l : ℝ) : EReal) := by
  have h1 : (Finset.univ.fold max (Ideal.ofBits .f32 0xFF800000#32) fun x => (a (ix2 (i x) l) : EReal))
      = ((top 22 (fun n => A (704 + (h * 22 + n)) l) : ℝ) : EReal) := by
    rw [bits_bot, ← fold_max_real]
    simp only [ha, hi]
  have h2 : (Finset.univ.fold max (Ideal.ofBits .f32 0xFF800000#32) fun x => (d (ix2 (i x) l) : EReal))
      = ((top 22 (fun n => A (792 + (h * 22 + n)) l) : ℝ) : EReal) := by
    rw [bits_bot, ← fold_max_real]
    simp only [hdd, hi]
  rw [h1, h2, ← EReal.coe_add]
  exact leaky_gt _

include hs hd in
set_option maxHeartbeats 4000000 in
/-- The scores at an index. -/
theorem scores (v : FVec Ideal S880x2000 .f32) (S D : FVec Ideal S440x88 .f32)
    (hv : ∀ r l, v (ix2 r l) = ((A r l : ℝ) : EReal)) (hS : ∀ r c, S (ix2 r c) = ((hot gs r c : ℝ) : EReal))
    (hD : ∀ r c, D (ix2 r c) = ((hot gd r c : ℝ) : EReal)) (r : Fin 440) (l : Fin 2000) :
    k0_pay47 v S D (ix2 r l) = ((sc A gs gd r l : ℝ) : EReal) := by
  unfold k0_pay47
  clean_types
  pointwise [dot_S440x176_S176x2000_S440x2000_1_0_0_1_n_n]
  have h1 : ∑ x : Fin 88, S (ix2 r x) * v (ix2 ⟨704 + ↑x, by omega⟩ l)
      = ((A (704 + (r / 110 * 22 + gs (r % 110))) l : ℝ) : EReal) := by
    rw [← hot_pick hs (fun c => A (704 + c) l) r r.isLt]
    simp only [hS, hv, ← EReal.coe_mul, coe_fsum]
  have h2 : ∑ x : Fin 88, D (ix2 r x) * v (ix2 ⟨704 + (88 + ↑x), by omega⟩ l)
      = ((A (792 + (r / 110 * 22 + gd (r % 110))) l : ℝ) : EReal) := by
    rw [← hot_pick hd (fun c => A (792 + c) l) r r.isLt]
    simp only [hD, hv, ← EReal.coe_mul, coe_fsum, ← Nat.add_assoc, Nat.reduceAdd]
  rw [h1, h2, ← EReal.coe_add]
  exact leaky_gt _

set_option maxHeartbeats 4000000 in
/-- The first head's bound. -/
theorem bound0 (a d : FVec Ideal S88x2000 .f32)
    (ha : ∀ c l, a (ix2 c l) = ((A (704 + c) l : ℝ) : EReal)) (hdd : ∀ c l, d (ix2 c l) = ((A (792 + c) l : ℝ) : EReal))
    (r : Fin 110) (l : Fin 2000) :
    k0_pay48 a d (ix2 r l) = ((bd A 0 l : ℝ) : EReal) := by
  unfold k0_pay48
  clean_types
  pointwise
  exact head_bound a d ha hdd l 0 _ (fun x => by simp)

set_option maxHeartbeats 4000000 in
/-- The edges' weights before they are normalised. -/
theorem weights (a d : FVec Ideal S88x2000 .f32)
    (ha : ∀ c l, a (ix2 c l) = ((A (704 + c) l : ℝ) : EReal)) (hdd : ∀ c l, d (ix2 c l) = ((A (792 + c) l : ℝ) : EReal))
    (E : FVec Ideal S440x2000 .f32) (hE : ∀ r l, E (ix2 r l) = ((sc A gs gd r l : ℝ) : EReal))
    (r : Fin 440) (l : Fin 2000) :
    k0_pay50 a d E (k0_pay48 a d) (k0_pay49 a) (ix2 r l) = ((Real.exp (sc A gs gd r l - bd A (r / 110) l) : ℝ) : EReal) := by
  unfold k0_pay50
  clean_types
  pointwise [k0_pay49]
  rw [hE]
  have hb : ∀ y : EReal, y = ((bd A (r / 110) l : ℝ) : EReal) →
      Ideal.exp (((sc A gs gd r l : ℝ) : EReal) - y) = ((Real.exp (sc A gs gd r l - bd A (r / 110) l) : ℝ) : EReal) := by
    rintro y rfl
    rw [← EReal.coe_sub, Ideal.exp_coe]
  apply hb
  split
  · rw [bound0 a d ha hdd, show (r : ℕ) / 110 = 0 by omega]
  · split
    · rw [show (r : ℕ) / 110 = 1 by omega]
      exact head_bound a d ha hdd l 1 _ (fun x => rfl)
    · split
      · rw [show (r : ℕ) / 110 = 2 by omega]
        exact head_bound a d ha hdd l 2 _ (fun x => rfl)
      · rw [show (r : ℕ) / 110 = 3 by omega]
        exact head_bound a d ha hdd l 3 _ (fun x => rfl)

/-- The sum of the weights of the edges that end at a row's node. -/
def dn (gd : ℕ → ℕ) (E : ℕ → ℕ → ℝ) (c l : ℕ) : ℝ := ∑ r : Fin 440, hot gd r c * E r l

set_option maxHeartbeats 4000000 in
/-- The sums of the weights, at an index. -/
theorem sums (a d : FVec Ideal S88x2000 .f32) (T : FVec Ideal S88x440 .f32) (E : FVec Ideal S440x2000 .f32)
    (b : FVec Ideal S110x2000 .f32) (s : FVec Ideal S22x2000 .f32)
    {W : ℕ → ℕ → ℝ} (hW : ∀ r l, k0_pay50 a d E b s (ix2 r l) = ((W r l : ℝ) : EReal))
    (hT : ∀ c r, T (ix2 c r) = ((hot gd r c : ℝ) : EReal)) (c : Fin 88) (l : Fin 2000) :
    k0_pay51 a d T E b s (ix2 c l) = ((dn gd W c l : ℝ) : EReal) := by
  unfold k0_pay51
  clean_types
  pointwise [dot_S88x440_S440x2000_S88x2000_1_0_0_1_n_n]
  simp only [hW, hT, ← EReal.coe_mul, coe_fsum, dn]

/-- What a block's second half takes in. -/
structure In2 (A : ℕ → ℕ → ℝ) (gs gd : ℕ → ℕ) (W : ℕ → ℕ → ℝ) (Rh Q : ℕ → ℕ → ℝ) (sg bg : ℕ → ℝ) (p8 : ℕ → ℕ → ℝ)
    (v106 : FVec Ideal S704x2000 .f32) (v198 : FVec Ideal S440x88 .f32) (v276 : FVec Ideal S88x440 .f32)
    (v343 : FVec Ideal S440x2000 .f32) (v344 : FVec Ideal S88x2000 .f32) (v352 : Vec Ideal S704x88 .f32)
    (v355 : Vec Ideal S32x704 .f32) (v359 v363 : Vec Ideal S32x1 .f32) (v375 : Vec Ideal S2000x250 .f32) : Prop where
  hA : ∀ q l, v106 (ix2 q l) = ((A q l : ℝ) : EReal)
  hD : ∀ r c, v198 (ix2 r c) = ((hot gd r c : ℝ) : EReal)
  hS : ∀ c r, v276 (ix2 c r) = ((hot gs r c : ℝ) : EReal)
  hW : ∀ r l, v343 (ix2 r l) = ((W r l : ℝ) : EReal)
  hdn : ∀ c l, v344 (ix2 c l) = ((dn gd W c l : ℝ) : EReal)
  hRh : ∀ q c, v352 (ix2 q c) = ((Rh q c : ℝ) : EReal)
  hQ : ∀ o q, v355 (ix2 o q) = ((Q o q : ℝ) : EReal)
  hsg : ∀ o, v359 (ix2 o 0) = ((sg o : ℝ) : EReal)
  hbg : ∀ o, v363 (ix2 o 0) = ((bg o : ℝ) : EReal)
  hp8 : ∀ l u, v375 (ix2 l u) = ((p8 l u : ℝ) : EReal)
  hpos : ∀ c l, 0 < dn gd W c l + tiny

/-- An edge's share of its destination. -/
def sh (gd : ℕ → ℕ) (W : ℕ → ℕ → ℝ) (r l : ℕ) : ℝ := W r l * ∑ c : Fin 88, hot gd r c * (1 / (dn gd W c l + tiny))

/-- The sum of a source's shares. -/
def ws (gs gd : ℕ → ℕ) (W : ℕ → ℕ → ℝ) (c l : ℕ) : ℝ := ∑ r : Fin 440, hot gs r c * sh gd W r l

/-- The mean over the nodes, normalised. -/
def zk (A : ℕ → ℕ → ℝ) (gs gd : ℕ → ℕ) (W : ℕ → ℕ → ℝ) (Rh Q : ℕ → ℕ → ℝ) (sg bg : ℕ → ℝ) (o l : ℕ) : ℝ :=
  (∑ q : Fin 704, Q o q * (A q l * ∑ c : Fin 88, Rh q c * ws gs gd W c l)) * sg o + bg o

/-- The first pool, both signals' lanes side by side. -/
def pk (A : ℕ → ℕ → ℝ) (gs gd : ℕ → ℕ) (W : ℕ → ℕ → ℝ) (Rh Q : ℕ → ℕ → ℝ) (sg bg : ℕ → ℝ) (p8 : ℕ → ℕ → ℝ) (o u : ℕ) : ℝ :=
  ∑ l : Fin 2000, elu (zk A gs gd W Rh Q sg bg o l) * p8 l u

set_option maxHeartbeats 8000000 in
/-- The first pool, padded, at an index. -/
theorem pool1 {W Rh Q : ℕ → ℕ → ℝ} {sg bg : ℕ → ℝ} {p8 : ℕ → ℕ → ℝ}
    {v106 : FVec Ideal S704x2000 .f32} {v198 : FVec Ideal S440x88 .f32} {v276 : FVec Ideal S88x440 .f32}
    {v343 : FVec Ideal S440x2000 .f32} {v344 : FVec Ideal S88x2000 .f32} {v352 : Vec Ideal S704x88 .f32}
    {v355 : Vec Ideal S32x704 .f32} {v359 v363 : Vec Ideal S32x1 .f32} {v375 : Vec Ideal S2000x250 .f32}
    (H : In2 A gs gd W Rh Q sg bg p8 v106 v198 v276 v343 v344 v352 v355 v359 v363 v375) (o : Fin 32) (s : Fin 280) :
    k0_pay53 v106 v198 v276 v343 v344 k0_pay52 v352 v355 v359 v363 v375 (ix2 o s)
      = ((if 7 ≤ (s : ℕ) ∧ (s : ℕ) < 132 then pk A gs gd W Rh Q sg bg p8 o (s - 7)
          else if 147 ≤ (s : ℕ) ∧ (s : ℕ) < 272 then pk A gs gd W Rh Q sg bg p8 o (s - 147 + 125) else 0 : ℝ) : EReal) := by
  unfold k0_pay53 k0_pay52
  clean_types
  pointwise [dot_S440x88_S88x2000_S440x2000_1_0_0_1_n_n, dot_S88x440_S440x2000_S88x2000_1_0_0_1_n_n,
    dot_S704x88_S88x2000_S704x2000_1_0_0_1_n_n, dot_S32x704_S704x2000_S32x2000_1_0_0_1_n_n,
    dot_S32x2000_S2000x250_S32x250_1_0_0_1_n_n]
  have hi : ∀ (c : Fin 88) (l : Fin 2000), Ideal.div 1 (v344 (ix2 c l) + Ideal.ofBits .f32 0x24E69595#32)
      = ((1 / (dn gd W c l + tiny) : ℝ) : EReal) := by
    intro c l
    rw [H.hdn, bits_tiny, ← EReal.coe_add, ← div_real _ _ (H.hpos c l).ne', EReal.coe_one]
  have hz : ∀ x : Fin 2000, (∑ x_1, v355 (ix2 o x_1) * (v106 (ix2 x_1 x) * ∑ x_2, v352 (ix2 x_1 x_2) *
      ∑ x_3, v276 (ix2 x_2 x_3) * (v343 (ix2 x_3 x) * ∑ x_4, v198 (ix2 x_3 x_4) *
        Ideal.div 1 (v344 (ix2 x_4 x) + Ideal.ofBits .f32 0x24E69595#32)))) * v359 (ix2 o 0) + v363 (ix2 o 0)
      = ((zk A gs gd W Rh Q sg bg o x : ℝ) : EReal) := by
    intro x
    simp only [hi, H.hA, H.hD, H.hS, H.hW, H.hRh, H.hQ, H.hsg, H.hbg, ← EReal.coe_mul, coe_fsum, ← EReal.coe_add, zk, ws, sh]
  simp only [hz, elu_min, H.hp8, ← EReal.coe_mul, coe_fsum]
  split
  · rw [if_neg (by omega), if_neg (by omega), EReal.coe_zero]
  · split
    · rw [if_pos (by omega)]
      rfl
    · split
      · rw [if_neg (by omega), if_neg (by omega), EReal.coe_zero]
      · split
        · rw [if_neg (by omega), if_pos (by omega), pk]
          have h : 125 + ((s : ℕ) - 7 - 125 - 15) = (s : ℕ) - 147 + 125 := by omega
          simp only [h]
        · rw [if_neg (by omega), if_neg (by omega), EReal.coe_zero]

end Cert.Proof.Ker
-- ==== Proof.KerConv.lean ====
module

public import proofs.«01_k».proof.Proof.KerWin
public import proofs.«01_k».proof.Proof.Elu

/-! # The kernel's second convolution and its pool -/

@[expose] public section

noncomputable section

namespace Cert.Proof.Ker

open Idealize.ShloMosaic Cert.KernelIdeal Cert.KernelIdeal.Gen Cert.KernelIdeal.Facts

/-- The second convolution, normalised, at all positions. -/
def ck (Z w : ℕ → ℕ → ℝ) (s b : ℕ → ℝ) (o x : ℕ) : ℝ := (∑ q : Fin 512, w o q * Z (q % 32) (q / 32 + x)) * s o + b o

/-- The second pool, both signals' results side by side. -/
def ok (Z w : ℕ → ℕ → ℝ) (s b : ℕ → ℝ) (p4 : ℕ → ℕ → ℝ) (o v : ℕ) : ℝ := ∑ x : Fin 265, elu (ck Z w s b o x) * p4 x v

/-- A window of the padded pool. -/
theorem window' {Z : ℕ → ℕ → ℝ} {z : FVec Ideal S32x280 .f32} (hz : ∀ o s, z (ix2 o s) = ((Z o s : ℝ) : EReal))
    (k : ℕ) (h1 : Shape.Slices S32x280 ![0, k] S32x265) (o : Fin 32) (l : Fin 265) :
    extractStridedSlice S32x265 ![0, k] z h1 (ix2 o l) = ((Z o (k + l) : ℝ) : EReal) := by
  pointwise
  exact hz _ _

set_option maxHeartbeats 4000000 in
/-- The second pool at an index. -/
theorem pool2 {Z w : ℕ → ℕ → ℝ} {s b : ℕ → ℝ} {p4 : ℕ → ℕ → ℝ} {z : FVec Ideal S32x280 .f32} {v401 : Vec Ideal S32x512 .f32}
    {v404 v408 : Vec Ideal S32x1 .f32} {v420 : Vec Ideal S265x62 .f32}
    (hz : ∀ o s, z (ix2 o s) = ((Z o s : ℝ) : EReal)) (hw : ∀ o q, v401 (ix2 o q) = ((w o q : ℝ) : EReal))
    (hs : ∀ o, v404 (ix2 o 0) = ((s o : ℝ) : EReal)) (hb : ∀ o, v408 (ix2 o 0) = ((b o : ℝ) : EReal))
    (hp : ∀ x v, v420 (ix2 x v) = ((p4 x v : ℝ) : EReal)) (o : Fin 32) (v : Fin 62) :
    k0_pay54 z v401 v404 v408 v420 (ix2 o v) = ((ok Z w s b p4 o v : ℝ) : EReal) := by
  unfold k0_pay54
  generalize hP : concatenate S512x265 0 _ _ = P
  have hPv : ∀ (q : Fin 512) (l : Fin 265), P (ix2 q l) = ((Z (q % 32) (q / 32 + l) : ℝ) : EReal) := by
    intro q l
    subst hP
    refine stacked (a := 32) (F := fun k n l => Z n (k + l)) [_, _, _, _, _, _, _, _, _, _, _, _, _, _, _, _]
      (by norm_num) rfl ?_ _ q l
    refine ⟨?_, ?_, ?_, ?_, ?_, ?_, ?_, ?_, ?_, ?_, ?_, ?_, ?_, ?_, ?_, ?_, trivial⟩
    all_goals exact window' hz _ _
  clear hP
  clean_types
  pointwise [dot_S32x512_S512x265_S32x265_1_0_0_1_n_n, dot_S32x265_S265x62_S32x62_1_0_0_1_n_n]
  have hc : ∀ x : Fin 265, (∑ q, v401 (ix2 o q) * P (ix2 q x)) * v404 (ix2 o 0) + v408 (ix2 o 0)
      = ((ck Z w s b o x : ℝ) : EReal) := by
    intro x
    simp only [hPv, hw, hs, hb, ← EReal.coe_mul, coe_fsum, ← EReal.coe_add, ck]
  simp only [hc, elu_min, hp, ← EReal.coe_mul, coe_fsum, ok]

end Cert.Proof.Ker
-- ==== Proof.KerBlock.lean ====
module

public import proofs.«01_k».proof.Proof.KerWin
public import proofs.«01_k».proof.Proof.KerAtt
public import proofs.«01_k».proof.Proof.KerConv
public import proofs.«01_k».proof.Proof.Gen.KernelIdeal.Value

/-! # What the kernel's body computes of a block -/

@[expose] public section

noncomputable section

namespace Cert.Proof.Ker

open Idealize.ShloMosaic Cert.KernelIdeal Cert.KernelIdeal.Gen Cert.KernelIdeal.Facts

/-- The tables that the body takes in, as numbers. -/
structure Tabs where
  G : ℕ → ℕ → ℝ
  c : ℕ → ℝ
  gs : ℕ → ℕ
  gd : ℕ → ℕ
  Rh : ℕ → ℕ → ℝ
  Q : ℕ → ℕ → ℝ
  sg : ℕ → ℝ
  bg : ℕ → ℝ
  w : ℕ → ℕ → ℝ
  s : ℕ → ℝ
  b : ℕ → ℝ
  p8 : ℕ → ℕ → ℝ
  p4 : ℕ → ℕ → ℝ
  gs_lt : ∀ e, gs e < 22
  gd_lt : ∀ e, gd e < 22

/-- The body's input blocks hold the signals `f` and the tables. -/
structure Blk (f : ℕ → ℕ → ℝ) (T : Tabs) (x0 : Vec Ideal S1x22x2064 .f32) (x1 : Vec Ideal S880x704 .f32) (x2 : Vec Ideal S880x1 .f32) (x3 : Vec Ideal S8x128 .i32)
    (x4 : Vec Ideal S128x8 .i32) (x5 : Vec Ideal S704x88 .f32) (x6 : Vec Ideal S32x704 .f32) (x7 x8 : Vec Ideal S32x1 .f32)
    (x9 : Vec Ideal S32x512 .f32) (x10 x11 : Vec Ideal S32x1 .f32) (x12 : Vec Ideal S2000x250 .f32) (x13 : Vec Ideal S265x62 .f32) : Prop where
  h0 : ∀ n s, x0 (ix3 0 n s) = ((f n s : ℝ) : EReal)
  h1 : ∀ r q, x1 (ix2 r q) = ((T.G r q : ℝ) : EReal)
  h2 : ∀ r, x2 (ix2 r 0) = ((T.c r : ℝ) : EReal)
  h3s : ∀ e : Fin 110, x3 (ix2 0 ⟨e, by omega⟩) = BitVec.ofNat 32 (T.gs e)
  h3d : ∀ e : Fin 110, x3 (ix2 1 ⟨e, by omega⟩) = BitVec.ofNat 32 (T.gd e)
  h4s : ∀ e : Fin 110, x4 (ix2 ⟨e, by omega⟩ 0) = BitVec.ofNat 32 (T.gs e)
  h4d : ∀ e : Fin 110, x4 (ix2 ⟨e, by omega⟩ 1) = BitVec.ofNat 32 (T.gd e)
  h5 : ∀ q c, x5 (ix2 q c) = ((T.Rh q c : ℝ) : EReal)
  h6 : ∀ o q, x6 (ix2 o q) = ((T.Q o q : ℝ) : EReal)
  h7 : ∀ o, x7 (ix2 o 0) = ((T.sg o : ℝ) : EReal)
  h8 : ∀ o, x8 (ix2 o 0) = ((T.bg o : ℝ) : EReal)
  h9 : ∀ o q, x9 (ix2 o q) = ((T.w o q : ℝ) : EReal)
  h10 : ∀ o, x10 (ix2 o 0) = ((T.s o : ℝ) : EReal)
  h11 : ∀ o, x11 (ix2 o 0) = ((T.b o : ℝ) : EReal)
  h12 : ∀ l u, x12 (ix2 l u) = ((T.p8 l u : ℝ) : EReal)
  h13 : ∀ x v, x13 (ix2 x v) = ((T.p4 x v : ℝ) : EReal)

namespace Tabs

variable (T : Tabs) (f : ℕ → ℕ → ℝ)

/-- The first product. -/
def A : ℕ → ℕ → ℝ := nf f T.G T.c

/-- The edges' weights before they are normalised. -/
def W (r l : ℕ) : ℝ := Real.exp (sc (T.A f) T.gs T.gd r l - bd (T.A f) (r / 110) l)

/-- The first pool, padded. -/
def Z (o s : ℕ) : ℝ :=
  if 7 ≤ s ∧ s < 132 then pk (T.A f) T.gs T.gd (T.W f) T.Rh T.Q T.sg T.bg T.p8 o (s - 7)
  else if 147 ≤ s ∧ s < 272 then pk (T.A f) T.gs T.gd (T.W f) T.Rh T.Q T.sg T.bg T.p8 o (s - 147 + 125) else 0

/-- The body's result, both signals' side by side. -/
def out (o v : ℕ) : ℝ := ok (T.Z f) T.w T.s T.b T.p4 o v

theorem dn_pos (c l : ℕ) : 0 < dn T.gd (T.W f) c l + tiny := by
  refine add_pos_of_nonneg_of_pos (Finset.sum_nonneg fun r _ => mul_nonneg ?_ (Real.exp_pos _).le) tiny_pos
  unfold hot
  split <;> norm_num

end Tabs

theorem off2 : (![0, 0] : Fin 2 → ℕ) = fun _ => 0 := by funext a; fin_cases a <;> rfl

theorem off3 : (![0, 0, 0] : Fin 3 → ℕ) = fun _ => 0 := by funext a; fin_cases a <;> rfl

section

variable {f : ℕ → ℕ → ℝ} {T : Tabs} {x0 : Vec Ideal S1x22x2064 .f32} {x1 : Vec Ideal S880x704 .f32} {x2 : Vec Ideal S880x1 .f32} {x3 : Vec Ideal S8x128 .i32}
    {x4 : Vec Ideal S128x8 .i32} {x5 : Vec Ideal S704x88 .f32} {x6 : Vec Ideal S32x704 .f32} {x7 x8 : Vec Ideal S32x1 .f32}
    {x9 : Vec Ideal S32x512 .f32} {x10 x11 : Vec Ideal S32x1 .f32} {x12 : Vec Ideal S2000x250 .f32} {x13 : Vec Ideal S265x62 .f32}
  (H : Blk f T x0 x1 x2 x3 x4 x5 x6 x7 x8 x9 x10 x11 x12 x13)

include H

theorem in1 : In1 f T.G T.c (View.ld x0 r0_0) (View.ld x1 r0_1) (View.ld x2 r0_2) := by
  rw [View.ld_unit_zero off3, View.ld_unit_zero off2, View.ld_unit_zero off2]
  exact ⟨H.h0, H.h1, H.h2⟩

set_option maxHeartbeats 1000000 in
theorem src_scores (c : Fin 88) (l : Fin 2000) : k0_pay75 x0 x1 x2 x3 x4 x5 x6 x7 x8 x9 x10 x11 x12 x13 (ix2 c l) = ((T.A f (704 + c) l : ℝ) : EReal) := by
  unfold k0_pay75 k0_pay23
  pointwise
  exact prod1 (in1 H) _ _

set_option maxHeartbeats 1000000 in
theorem dst_scores (c : Fin 88) (l : Fin 2000) : k0_pay76 x0 x1 x2 x3 x4 x5 x6 x7 x8 x9 x10 x11 x12 x13 (ix2 c l) = ((T.A f (792 + c) l : ℝ) : EReal) := by
  unfold k0_pay76 k0_pay24
  pointwise
  exact prod1 (in1 H) _ _

theorem dsts (r : Fin 440) (c : Fin 88) : k0_pay81 x0 x1 x2 x3 x4 x5 x6 x7 x8 x9 x10 x11 x12 x13 (ix2 r c) = ((hot T.gd r c : ℝ) : EReal) := by
  unfold k0_pay81
  rw [View.ld_unit_zero off2]
  exact dst_tab T.gd_lt x4 H.h4d r c

set_option maxHeartbeats 1000000 in
theorem all_scores (r : Fin 440) (l : Fin 2000) : k0_pay87 x0 x1 x2 x3 x4 x5 x6 x7 x8 x9 x10 x11 x12 x13 (ix2 r l) = ((sc (T.A f) T.gs T.gd r l : ℝ) : EReal) := by
  unfold k0_pay87
  refine scores T.gs_lt T.gd_lt _ _ _ (fun r l => prod1 (in1 H) r l) (fun r c => ?_) (dsts H) r l
  rw [View.ld_unit_zero off2]
  exact src_tab T.gs_lt x4 H.h4s r c

theorem all_weights (r : Fin 440) (l : Fin 2000) :
    k0_pay50 (k0_pay75 x0 x1 x2 x3 x4 x5 x6 x7 x8 x9 x10 x11 x12 x13) (k0_pay76 x0 x1 x2 x3 x4 x5 x6 x7 x8 x9 x10 x11 x12 x13) (k0_pay87 x0 x1 x2 x3 x4 x5 x6 x7 x8 x9 x10 x11 x12 x13)
      (k0_pay88 x0 x1 x2 x3 x4 x5 x6 x7 x8 x9 x10 x11 x12 x13) (k0_pay89 x0 x1 x2 x3 x4 x5 x6 x7 x8 x9 x10 x11 x12 x13) (ix2 r l) = ((T.W f r l : ℝ) : EReal) :=
  weights _ _ (src_scores H) (dst_scores H) _ (all_scores H) r l

set_option maxHeartbeats 1000000 in
/-- The first pool, padded. -/
theorem padded (o : Fin 32) (s : Fin 280) : k0_pay90 x0 x1 x2 x3 x4 x5 x6 x7 x8 x9 x10 x11 x12 x13 (ix2 o s) = ((T.Z f o s : ℝ) : EReal) := by
  unfold k0_pay90
  rw [View.ld_unit_zero off2 _ x5, View.ld_unit_zero off2 _ x6, View.ld_unit_zero off2 _ x7, View.ld_unit_zero off2 _ x8,
    View.ld_unit_zero off2 _ x12, View.ld_unit_zero off2 _ x3]
  refine pool1 (A := T.A f) (gs := T.gs) (gd := T.gd) (W := T.W f) ⟨?_, dsts H, src_tab' T.gs_lt x3 H.h3s, all_weights H,
    sums _ _ _ _ _ _ (all_weights H) (dst_tab' T.gd_lt x3 H.h3d), H.h5, H.h6, H.h7, H.h8, H.h12, T.dn_pos f⟩ o s
  intro q l
  unfold k0_pay22
  pointwise
  exact prod1 (in1 H) _ _

set_option maxHeartbeats 1000000 in
/-- Both halves of the body's result. -/
theorem halves (o : Fin 32) (v : Fin 62) :
    k0_pay54 (k0_pay90 x0 x1 x2 x3 x4 x5 x6 x7 x8 x9 x10 x11 x12 x13) (View.ld x9 r0_9) (View.ld x10 r0_7) (View.ld x11 r0_7) (View.ld x13 r0_10) (ix2 o v)
      = ((T.out f o v : ℝ) : EReal) := by
  rw [View.ld_unit_zero off2 _ x9, View.ld_unit_zero off2 _ x10, View.ld_unit_zero off2 _ x11, View.ld_unit_zero off2 _ x13]
  exact pool2 (padded H) H.h9 H.h10 H.h11 H.h13 o v

set_option maxHeartbeats 1000000 in
/-- What the body stores. -/
theorem stored (i : Fin 2) (o : Fin 32) (v : Fin 31) :
    out0_14 x0 x1 x2 x3 x4 x5 x6 x7 x8 x9 x10 x11 x12 x13 (ix3 i o v) = ((T.out f o (31 * i + v) : ℝ) : EReal) := by
  unfold out0_14
  refine View.canon_apply_of_pieces (Val := Elt Ideal) (fun y : S2x32x31.Idx => ((T.out f (y 1) (31 * (y 0) + (y 2)) : ℝ) : EReal)) _ ?_ _
    (cover0_14 _ _ _)
  intro p hp x
  rcases List.mem_cons.mp hp with rfl | hp
  · obtain ⟨a, b, c, rfl⟩ : ∃ (a : Fin 1) (b : Fin 32) (c : Fin 31), x = ix3 a b c := ⟨x 0, x 1, x 2, by funext i; fin_cases i <;> rfl⟩
    dsimp only
    have h0 : (((r0_12.emb (ix3 a b c)) 0 : Fin 2) : ℕ) = 1 + a := by rw [Rect.emb_apply]; simp
    have h1 : (((r0_12.emb (ix3 a b c)) 1 : Fin 32) : ℕ) = b := by rw [Rect.emb_apply]; simp
    have h2 : (((r0_12.emb (ix3 a b c)) 2 : Fin 31) : ℕ) = c := by rw [Rect.emb_apply]; simp
    rw [h0, h1, h2]
    unfold k0_pay1
    pointwise
    rw [halves H]
  · rcases List.mem_singleton.mp hp with rfl
    obtain ⟨a, b, c, rfl⟩ : ∃ (a : Fin 1) (b : Fin 32) (c : Fin 31), x = ix3 a b c := ⟨x 0, x 1, x 2, by funext i; fin_cases i <;> rfl⟩
    dsimp only
    have h0 : (((r0_11.emb (ix3 a b c)) 0 : Fin 2) : ℕ) = a := by rw [Rect.emb_apply]; simp
    have h1 : (((r0_11.emb (ix3 a b c)) 1 : Fin 32) : ℕ) = b := by rw [Rect.emb_apply]; simp
    have h2 : (((r0_11.emb (ix3 a b c)) 2 : Fin 31) : ℕ) = c := by rw [Rect.emb_apply]; simp
    rw [h0, h1, h2]
    unfold k0_pay55
    pointwise
    rw [halves H]

end

end Cert.Proof.Ker
-- ==== Proof.KerTabs.lean ====
module

public import proofs.«01_k».proof.Proof.KerBlock
public import proofs.«01_k».proof.Proof.Gen.KernelIdeal.Frame
public import Idealize.ShloMosaic.Lib.StableHlo.ReadAt
public import Idealize.ShloMosaic.Lib.Routing.OpsOne

/-! # The tables that the kernel's outer code makes of the arguments -/

@[expose] public section

noncomputable section

namespace Cert.Proof.Ker

open Idealize.ShloMosaic Cert.KernelIdeal Cert.KernelIdeal.Gen Cert.KernelIdeal.Facts Idealize.ShloMosaic.TcCoe

/-! ### The tables -/

/-- A filter's tap times the projection. -/
def wf (N : Net) (k o : ℕ) : ℝ := ∑ f : Fin 16, N.w1 f k * (N.g1 f * (1 / root)) * N.W f o

/-- The shift's projection. -/
def wb (N : Net) (o : ℕ) : ℝ := ∑ f : Fin 16, N.b1 f * N.W f o

/-- A row of features, then its scores as a source by head, then its scores as a destination by head. -/
def ext (N : Net) (w : ℕ → ℝ) (o : ℕ) : ℝ :=
  if o < 32 then w o
  else if o - 32 < 4 then ∑ x : Fin 32, w x * (N.ats (x / 8) (x % 8) * if (x : ℕ) / 8 = o - 32 then 1 else 0)
  else ∑ x : Fin 32, w x * (N.atd (x / 8) (x % 8) * if (x : ℕ) / 8 = o - 32 - 4 then 1 else 0)

/-- The tables of a network. -/
def tabs (N : Net) : Tabs where
  G r q := ext N (wf N (q / 22)) (r / 22) * if r % 22 = q % 22 then 1 else 0
  c r := ext N (wb N) (r / 22)
  gs := N.src
  gd := N.dst
  Rh q c := (if q / 22 / 8 = c / 22 then 1 else 0) * if q % 22 = c % 22 then 1 else 0
  Q o q := if o = q / 22 then 1 else 0
  sg o := N.gg o * (1 / root) / 22
  bg o := N.bias o * (N.gg o * (1 / root)) + N.bg o
  w o q := N.w3 o (q % 32) (q / 32)
  s o := N.g3 o * (1 / root)
  b o := N.b3 o
  p8 l u := (if l / 8 = u then 1 else 0) / 8
  p4 x v := (if 31 * (x / 140) + x % 140 / 4 = v ∧ x % 140 < 124 then 1 else 0) / 4
  gs_lt := N.src_lt
  gd_lt := N.dst_lt

/-- The two padded signals of a block, laid end to end. -/
def sig2 (N : Net) (t n s : ℕ) : ℝ := if s < 1032 then N.xp (2 * t) n s else N.xp (2 * t + 1) n (s - 1032)

/-! ### Words -/

/-- A test of two words that hold numbers. -/
theorem eq_word {A B : BitVec 32} {a b : ℕ} (hA : A = BitVec.ofNat 32 a) (hB : B = BitVec.ofNat 32 b) (ha : a < 4096)
    (hb : b < 4096) : IntOp.cmpi .eq A B = if a = b then 1#1 else 0#1 := by
  subst hA hB
  have h : (BitVec.ofNat 32 a == BitVec.ofNat 32 b) = decide (a = b) := by
    rw [Bool.eq_iff_iff, beq_iff_eq, ← BitVec.toNat_inj, BitVec.toNat_ofNat, BitVec.toNat_ofNat, Nat.mod_eq_of_lt (by omega),
      Nat.mod_eq_of_lt (by omega), decide_eq_true_iff]
  by_cases hab : a = b <;> simp [IntOp.cmpi, h, hab]

/-- The same as a number. -/
theorem eq_flag {A B : BitVec 32} {a b : ℕ} (hA : A = BitVec.ofNat 32 a) (hB : B = BitVec.ofNat 32 b) (ha : a < 4096)
    (hb : b < 4096) : (FloatOps.uitofp (F := Ideal) .f32 (IntOp.cmpi .eq A B) : EReal) = ((if a = b then 1 else 0 : ℝ) : EReal) := by
  rw [eq_word hA hB ha hb]
  show (((_ : BitVec 1).toNat : ℝ) : EReal) = _
  by_cases hab : a = b <;> simp [hab]

/-- The same with a second test, that a number is below 124. -/
theorem eq_lt_flag {A B C : BitVec 32} {a b d : ℕ} (hA : A = BitVec.ofNat 32 a) (hB : B = BitVec.ofNat 32 b)
    (hC : C = BitVec.ofNat 32 d) (ha : a < 4096) (hb : b < 4096) (hd : d < 140) :
    (FloatOps.uitofp (F := Ideal) .f32 (IntOp.andi (IntOp.cmpi .eq A B) (IntOp.cmpi .slt C 124#32)) : EReal)
      = ((if a = b ∧ d < 124 then 1 else 0 : ℝ) : EReal) := by
  have h' : IntOp.cmpi .slt (BitVec.ofNat 32 d) 124#32 = if d < 124 then 1#1 else 0#1 := by
    obtain ⟨d', rfl⟩ : ∃ d' : Fin 140, d = d' := ⟨⟨d, hd⟩, rfl⟩
    clear hd hC
    revert d'
    decide +kernel
  rw [eq_word hA hB ha hb, hC, h']
  show (((_ : BitVec 1).toNat : ℝ) : EReal) = _
  by_cases hab : a = b <;> by_cases hdd : d < 124 <;> simp [IntOp.andi, hab, hdd]

/-- One over the root. -/
theorem inv_word :
    (id (Host.divf (F := Ideal) (φ := .f32) (constant S_ .f32 1065353216#32) (Host.sqrt (constant S_ .f32 1065353300#32))) ix0 : EReal)
      = ((1 / root : ℝ) : EReal) := by
  show Ideal.div (Ideal.ofBits .f32 0x3F800000#32) (Ideal.sqrt (Ideal.ofBits .f32 0x3F800054#32)) = _
  rw [bits_one, bits_root, div_real _ _ root_pos.ne']

/-- An array laid into a larger one from its first corner on, where it lies. -/
theorem laid {α : Type} {R C A B w : ℕ} (d : ScatterDims ⟨2, ![R, C]⟩ ⟨1, ![2]⟩ ⟨2, ![A, B]⟩)
    (hu : d.updateWindowDims = [0, 1]) (hi : d.insertedWindowDims = []) (hs : d.scatterDimsToOperandDims = [0, 1])
    (hv : d.indexVectorDim = 0) (x : (⟨2, ![R, C]⟩ : Shape).Idx → α) (idx : IVec ⟨1, ![2]⟩ w)
    (h0 : ∀ q, (idx (ix1 q)).toInt = 0) (upd : (⟨2, ![A, B]⟩ : Shape).Idx → α) (a : Fin A) (b : Fin B) (ha : (a : ℕ) < R)
    (hb : (b : ℕ) < C) :
    Host.scatter d (fun _ b => b) x idx upd (ix2 ⟨a, ha⟩ ⟨b, hb⟩) = upd (ix2 a b) := by
  have h0' : ∀ q, (idx (ValueIdx.ix1 q)).toInt = 0 := h0
  have hw : ∀ (p : Fin A) (q : Fin B), d.window (ix2 p q) 0 = p ∧ d.window (ix2 p q) 1 = q := by
    intro p q
    obtain ⟨u, i, s', v', wf'⟩ := d
    dsimp only at hu hi
    subst hu hi
    exact ⟨rfl, rfl⟩
  have hl : ∀ (p : Fin A) (q : Fin B), d.resultIdx? (ix2 p q) idx = some (ix2 ⟨a, ha⟩ ⟨b, hb⟩) ↔ (p : ℕ) = a ∧ (q : ℕ) = b := by
    intro p q
    rw [Routing.resultIdx?_eq_some]
    constructor
    · intro h
      have e0 := h 0
      have e1 := h 1
      rw [Routing.start_pair d hs hv, h0', (hw p q).1] at e0
      rw [Routing.start_pair d hs hv, h0', (hw p q).2] at e1
      simp at e0 e1
      omega
    · rintro ⟨e0, e1⟩ i
      rw [Routing.start_pair d hs hv, h0']
      fin_cases i
      · show (0 : ℤ) + (d.window (ix2 p q) 0 : ℤ) = ((a : ℕ) : ℤ)
        rw [(hw p q).1, e0, zero_add]
      · show (0 : ℤ) + (d.window (ix2 p q) 1 : ℤ) = ((b : ℕ) : ℤ)
        rw [(hw p q).2, e1, zero_add]
  refine Routing.scatter_set_hit d x idx upd _ _ (fun k hk => ?_) (ix2 a b) ((hl a b).mpr ⟨rfl, rfl⟩)
  obtain ⟨p, q, rfl⟩ : ∃ (p : Fin A) (q : Fin B), k = ix2 p q := ⟨k 0, k 1, by funext i; fin_cases i <;> rfl⟩
  obtain ⟨e0, e1⟩ := (hl p q).mp hk
  rw [Fin.ext e0, Fin.ext e1]

/-- The kernel's arguments hold the network's numbers. -/
abbrev KerReads (N : Net) (m : (ℓ : Loc nD τ Cert.KernelIdeal.sig) → Buf (Elt Ideal) ℓ) (c : Dev nD) : Prop :=
  Reads N (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5))
    (m (c, Proc.tc.devRef main_arg6)) (m (c, Proc.tc.devRef main_arg7)) (m (c, Proc.tc.devRef main_arg8))
    (m (c, Proc.tc.devRef main_arg9)) (m (c, Proc.tc.devRef main_arg10)) (m (c, Proc.tc.devRef main_arg11))
    (m (c, Proc.tc.devRef main_arg12)) (m (c, Proc.tc.devRef main_arg13))

/-- A choice between a row's features, its scores as a source and its scores as a destination. -/
theorem ext_read {N : Net} {w : ℕ → ℝ} {o : ℕ} {X : o < 32 → EReal} {Y : ¬ o < 32 → o - 32 < 4 → EReal}
    {Z : ¬ o < 32 → ¬ o - 32 < 4 → EReal} (hX : ∀ h, X h = ((w o : ℝ) : EReal))
    (hY : ∀ h h', Y h h' = ((∑ x : Fin 32, w x * (N.ats (x / 8) (x % 8) * if (x : ℕ) / 8 = o - 32 then 1 else 0) : ℝ) : EReal))
    (hZ : ∀ h h', Z h h' = ((∑ x : Fin 32, w x * (N.atd (x / 8) (x % 8) * if (x : ℕ) / 8 = o - 32 - 4 then 1 else 0) : ℝ) : EReal)) :
    (if h : o < 32 then X h else if h' : o - 32 < 4 then Y h h' else Z h h') = ((ext N w o : ℝ) : EReal) := by
  unfold ext
  by_cases h : o < 32
  · rw [dif_pos h, if_pos h, hX]
  · rw [dif_neg h, if_neg h]
    by_cases h' : o - 32 < 4
    · rw [dif_pos h', if_pos h', hY]
    · rw [dif_neg h', if_neg h', hZ]

end Cert.Proof.Ker

end
-- ==== Proof.KerHost.lean ====
module

public import proofs.«01_k».proof.Proof.KerTabs

/-! # The arrays that the kernel's outer code makes of the arguments -/

@[expose] public section

noncomputable section

namespace Cert.Proof.Ker

open Idealize.ShloMosaic Cert.KernelIdeal Cert.KernelIdeal.Gen Cert.KernelIdeal.Facts Idealize.ShloMosaic.TcCoe

variable {m : (ℓ : Loc nD τ Cert.KernelIdeal.sig) → Buf (Elt Ideal) ℓ} {c : Dev nD} {N : Net}

/-- The padded signals, as the outer code reads them. -/
theorem sig_read {a0 a1 a2 a3 a4 a5 a6 a7 a8 a9 a10 a11 a12 a13} (R : Reads N a0 a1 a2 a3 a4 a5 a6 a7 a8 a9 a10 a11 a12 a13)
    (t : Fin 8) (n : Fin 22) (s : Fin 2064) :
    (if h : (t : ℕ) * 2 + (s : ℕ) / 1032 < 16 ∧ 15 ≤ (s : ℕ) % 1032 ∧ (s : ℕ) % 1032 - 15 < 1000 then
        a0 (ix4 ⟨(t : ℕ) * 2 + s / 1032, h.1⟩ 0 n ⟨(s : ℕ) % 1032 - 15, h.2.2⟩)
      else (FloatOps.sitofp (F := Ideal) FTy.f32 0#32 : EReal)) = ((sig2 N t n s : ℝ) : EReal) := by
  have h0 : (FloatOps.sitofp (F := Ideal) FTy.f32 0#32 : EReal) = ((0 : ℝ) : EReal) := by
    show (((0#32).toInt : ℝ) : EReal) = ((0 : ℝ) : EReal)
    simp
  rw [sig2, Net.xp, Net.xp, h0]
  by_cases hs : (s : ℕ) < 1032
  · rw [if_pos hs]
    by_cases h : 15 ≤ (s : ℕ) ∧ (s : ℕ) < 1015
    · rw [dif_pos (by omega), if_pos h, R.x]
      refine congrArg (fun v : ℝ => (v : EReal)) (?_ : N.x ((t : ℕ) * 2 + s / 1032) n ((s : ℕ) % 1032 - 15) = _)
      rw [show (t : ℕ) * 2 + s / 1032 = 2 * t by omega, show (s : ℕ) % 1032 - 15 = s - 15 by omega]
    · rw [dif_neg (by omega), if_neg h]
  · rw [if_neg hs]
    by_cases h : 15 ≤ (s : ℕ) - 1032 ∧ (s : ℕ) - 1032 < 1015
    · rw [dif_pos (by omega), if_pos h, R.x]
      refine congrArg (fun v : ℝ => (v : EReal)) (?_ : N.x ((t : ℕ) * 2 + s / 1032) n ((s : ℕ) % 1032 - 15) = _)
      rw [show (t : ℕ) * 2 + s / 1032 = 2 * t + 1 by omega, show (s : ℕ) % 1032 - 15 = s - 1032 - 15 by omega]
    · rw [dif_neg (by omega), if_neg h]

variable (R : KerReads N m c)

include R

set_option maxHeartbeats 4000000 in
/-- The padded signals. -/
theorem a_sig (t : Fin 8) (n : Fin 22) (s : Fin 2064) :
    (V m c main_v142 : Vec Ideal S8x22x2064 .f32) (ix3 t n s) = ((sig2 N t n s : ℝ) : EReal) := by
  unfold V
  after_reads_at
  exact sig_read R t n s

set_option maxHeartbeats 4000000 in
/-- The factor after the attention layer. -/
theorem a_sg (o : Fin 32) : (V m c main_v83 : Vec Ideal S32x1 .f32) (ix2 o 0) = (((tabs N).sg o : ℝ) : EReal) := by
  unfold V
  after_reads_at
  rw [R.gg, inv_word, bits_22, ← EReal.coe_mul, div_real _ _ (by norm_num)]
  rfl

set_option maxHeartbeats 4000000 in
/-- The shift after the attention layer. -/
theorem a_bg (o : Fin 32) : (V m c main_v86 : Vec Ideal S32x1 .f32) (ix2 o 0) = (((tabs N).bg o : ℝ) : EReal) := by
  unfold V
  after_reads_at
  rw [R.gg, inv_word, R.bias, R.bg, ← EReal.coe_mul, ← EReal.coe_mul, ← EReal.coe_add]
  rfl

set_option maxHeartbeats 4000000 in
/-- The second convolution's filters. -/
theorem a_w (o : Fin 32) (q : Fin 512) : (V m c main_v89 : Vec Ideal S32x512 .f32) (ix2 o q) = (((tabs N).w o q : ℝ) : EReal) := by
  unfold V
  after_reads_at
  rw [R.w3]
  rfl

set_option maxHeartbeats 4000000 in
/-- The factor after the second convolution. -/
theorem a_s (o : Fin 32) : (V m c main_v93 : Vec Ideal S32x1 .f32) (ix2 o 0) = (((tabs N).s o : ℝ) : EReal) := by
  unfold V
  after_reads_at
  rw [R.g3, inv_word, ← EReal.coe_mul]
  rfl

set_option maxHeartbeats 4000000 in
/-- The shift after the second convolution. -/
theorem a_b (o : Fin 32) : (V m c main_v94 : Vec Ideal S32x1 .f32) (ix2 o 0) = (((tabs N).b o : ℝ) : EReal) := by
  unfold V
  after_reads_at
  exact R.b3 o

end Cert.Proof.Ker

end
-- ==== Proof.KerGraph.lean ====
module

public import proofs.«01_k».proof.Proof.KerTabs

/-! # The products' tables and the edges' tables -/

@[expose] public section

noncomputable section

namespace Cert.Proof.Ker

open Idealize.ShloMosaic Cert.KernelIdeal Cert.KernelIdeal.Gen Cert.KernelIdeal.Facts Idealize.ShloMosaic.TcCoe

variable {m : (ℓ : Loc nD τ Cert.KernelIdeal.sig) → Buf (Elt Ideal) ℓ} {c : Dev nD} {N : Net}

section

variable {a0 a1 a2 a3 a4 a5 a6 a7 a8 a9 a10 a11 a12 a13} (R : Reads N a0 a1 a2 a3 a4 a5 a6 a7 a8 a9 a10 a11 a12 a13)

include R

/-- A filter's tap times the projection, as the outer code sums it. -/
theorem wf_read (k o : Fin 32) :
    (∑ x : Fin 16, a1 (ix4 x 0 0 k) * (a2 (ix1 x) *
            id (Host.divf (F := Ideal) (φ := .f32) (constant S_ FTy.f32 1065353216#32) (Host.sqrt (constant S_ FTy.f32 1065353300#32))) ix0) *
        a4 (ix2 x o)) = ((wf N k o : ℝ) : EReal) := by
  refine (Finset.sum_congr rfl fun x _ => ?_).trans (coe_fsum Finset.univ fun x : Fin 16 => N.w1 x k * (N.g1 x * (1 / root)) * N.W x o)
  rw [R.w1, R.g1, inv_word, R.W, EReal.coe_mul, EReal.coe_mul, EReal.coe_mul]

/-- The shift's projection, as the outer code sums it. -/
theorem wb_read (o : Fin 32) : (∑ x : Fin 16, a3 (ix1 x) * a4 (ix2 x o)) = ((wb N o : ℝ) : EReal) := by
  refine (Finset.sum_congr rfl fun x _ => ?_).trans (coe_fsum Finset.univ fun x : Fin 16 => N.b1 x * N.W x o)
  rw [R.b1, R.W, EReal.coe_mul]

end

/-- A row of features times a head's attention vector. -/
theorem score_read {X : Fin 32 → EReal} {w : ℕ → ℝ} (hX : ∀ x : Fin 32, X x = ((w x : ℝ) : EReal))
    {S : (⟨2, ![4, 8]⟩ : Shape).Idx → EReal} {s : ℕ → ℕ → ℝ} (hS : ∀ (h : Fin 4) (d : Fin 8), S (ix2 h d) = ((s h d : ℝ) : EReal))
    (o : ℕ) (ho : o < 4096) :
    (∑ x : Fin 32, X x * (S (ix2 ⟨x / 8, by omega⟩ ⟨x % 8, by omega⟩) * FloatOps.uitofp (F := Ideal) .f32
        (IntOp.cmpi .eq (IntOp.addi (BitVec.ofNat 32 (x / 8)) 0#32) (BitVec.ofNat 32 o))))
      = ((∑ x : Fin 32, w x * (s (x / 8) (x % 8) * if (x : ℕ) / 8 = o then 1 else 0) : ℝ) : EReal) := by
  refine (Finset.sum_congr rfl fun x _ => ?_).trans
    (coe_fsum Finset.univ fun x : Fin 32 => w x * (s (x / 8) (x % 8) * if (x : ℕ) / 8 = o then 1 else 0))
  rw [hX, hS, eq_flag (a := x / 8) (b := o) (by simp [IntOp.addi]) rfl (by omega) ho, EReal.coe_mul, EReal.coe_mul]

variable (R : KerReads N m c)

include R

set_option maxHeartbeats 4000000 in
/-- The first product's table. -/
theorem a_G (r : Fin 880) (q : Fin 704) : (V m c main_v51 : Vec Ideal S880x704 .f32) (ix2 r q) = (((tabs N).G r q : ℝ) : EReal) := by
  unfold V
  after_reads_at
  show _ = ((ext N (wf N (q / 22)) (r / 22) * _ : ℝ) : EReal)
  rw [EReal.coe_mul]
  refine congrArg₂ _ (ext_read (fun h => ?_) (fun h h' => ?_) (fun h h' => ?_))
    (eq_flag (by simp [IntOp.addi]) rfl (by omega) (by omega))
  · after_reads_at
    exact wf_read R ⟨q / 22, by omega⟩ ⟨r / 22, h⟩
  · after_reads_at
    exact score_read (fun x => wf_read R ⟨q / 22, by omega⟩ x) R.ats (r / 22 - 32) (by omega)
  · after_reads_at
    exact score_read (fun x => wf_read R ⟨q / 22, by omega⟩ x) R.atd (r / 22 - 32 - 4) (by omega)

set_option maxHeartbeats 4000000 in
/-- The first product's added column. -/
theorem a_c (r : Fin 880) : (V m c main_v38 : Vec Ideal S880x1 .f32) (ix2 r 0) = (((tabs N).c r : ℝ) : EReal) := by
  unfold V
  after_reads_at
  refine ext_read (fun h => ?_) (fun h h' => ?_) (fun h h' => ?_)
  · after_reads_at
    exact wb_read R ⟨r / 22, h⟩
  · after_reads_at
    exact score_read (fun x => wb_read R x) R.ats (r / 22 - 32) (by omega)
  · after_reads_at
    exact score_read (fun x => wb_read R x) R.atd (r / 22 - 32 - 4) (by omega)

omit R in
set_option maxHeartbeats 4000000 in
/-- The edges' ends, padded. -/
theorem a_ei (i : Fin 2) (e : Fin 110) :
    (V m c main_v131 : Vec Ideal S8x128 .i32) (ix2 ⟨i, by omega⟩ ⟨e, by omega⟩) = m (c, Proc.tc.devRef main_arg13) (ix2 i e) := by
  unfold V
  after_reads_at
  refine laid _ rfl rfl rfl rfl _ _ (fun q => ?_) _ i e _ _
  fin_cases q
  all_goals
    pointwise
    after_reads_at
    decide

omit R in
set_option maxHeartbeats 4000000 in
/-- The edges' ends, turned and padded. -/
theorem a_eit (i : Fin 2) (e : Fin 110) :
    (V m c main_v137 : Vec Ideal S128x8 .i32) (ix2 ⟨e, by omega⟩ ⟨i, by omega⟩) = m (c, Proc.tc.devRef main_arg13) (ix2 i e) := by
  unfold V
  after_reads_at
  refine (laid _ rfl rfl rfl rfl _ _ (fun q => ?_) _ e i _ _).trans ?_
  · fin_cases q
    all_goals
      pointwise
      after_reads_at
      decide
  · pointwise

end Cert.Proof.Ker

end
-- ==== Proof.KerOnes.lean ====
module

public import proofs.«01_k».proof.Proof.KerTabs

/-! # The tables of ones and of means -/

@[expose] public section

noncomputable section

namespace Cert.Proof.Ker

open Idealize.ShloMosaic Cert.KernelIdeal Cert.KernelIdeal.Gen Cert.KernelIdeal.Facts Idealize.ShloMosaic.TcCoe

variable {m : (ℓ : Loc nD τ Cert.KernelIdeal.sig) → Buf (Elt Ideal) ℓ} {c : Dev nD} {N : Net}

set_option maxHeartbeats 4000000 in
/-- The table that spreads a head over its features. -/
theorem a_Rh (q : Fin 704) (k : Fin 88) : (V m c main_v66 : Vec Ideal S704x88 .f32) (ix2 q k) = (((tabs N).Rh q k : ℝ) : EReal) := by
  unfold V
  after_reads_at
  show _ = (((_ * _ : ℝ)) : EReal)
  rw [EReal.coe_mul]
  refine congrArg₂ _ (eq_flag ?_ rfl (by omega) (by omega)) (eq_flag (by simp [IntOp.addi]) rfl (by omega) (by omega))
  obtain ⟨a, ha⟩ : ∃ a : Fin 32, (q : ℕ) / 22 = a := ⟨⟨q / 22, by omega⟩, rfl⟩
  rw [ha]
  clear ha q
  revert a
  decide +kernel

set_option maxHeartbeats 4000000 in
/-- The table that sums over the nodes. -/
theorem a_Q (o : Fin 32) (q : Fin 704) : (V m c main_v77 : Vec Ideal S32x704 .f32) (ix2 o q) = (((tabs N).Q o q : ℝ) : EReal) := by
  unfold V
  after_reads_at
  exact eq_flag rfl rfl (by omega) (by omega)

end Cert.Proof.Ker

end
-- ==== Proof.KerP8.lean ====
module

public import proofs.«01_k».proof.Proof.KerTabs

/-! # A pool's table -/

@[expose] public section

noncomputable section

namespace Cert.Proof.Ker

open Idealize.ShloMosaic Cert.KernelIdeal Cert.KernelIdeal.Gen Cert.KernelIdeal.Facts Idealize.ShloMosaic.TcCoe

variable {m : (ℓ : Loc nD τ Cert.KernelIdeal.sig) → Buf (Elt Ideal) ℓ} {c : Dev nD} {N : Net}

set_option maxHeartbeats 4000000 in
/-- The table of the first pool. -/
theorem a_p8 (l : Fin 2000) (u : Fin 250) : (V m c main_v105 : Vec Ideal S2000x250 .f32) (ix2 l u) = (((tabs N).p8 l u : ℝ) : EReal) := by
  unfold V
  after_reads_at
  refine (congrArg₂ Ideal.div (eq_flag (a := l / 8) ?_ rfl (by omega) (by omega)) bits_8).trans (div_real _ _ (by norm_num))
  clear u
  revert l
  decide +kernel

end Cert.Proof.Ker

end
-- ==== Proof.KerP4.lean ====
module

public import proofs.«01_k».proof.Proof.KerTabs

/-! # A pool's table -/

@[expose] public section

noncomputable section

namespace Cert.Proof.Ker

open Idealize.ShloMosaic Cert.KernelIdeal Cert.KernelIdeal.Gen Cert.KernelIdeal.Facts Idealize.ShloMosaic.TcCoe

variable {m : (ℓ : Loc nD τ Cert.KernelIdeal.sig) → Buf (Elt Ideal) ℓ} {c : Dev nD} {N : Net}

set_option maxHeartbeats 4000000 in
/-- The table of the second pool. -/
theorem a_p4 (x : Fin 265) (v : Fin 62) : (V m c main_v126 : Vec Ideal S265x62 .f32) (ix2 x v) = (((tabs N).p4 x v : ℝ) : EReal) := by
  unfold V
  after_reads_at
  refine (congrArg₂ Ideal.div (eq_lt_flag (a := 31 * (x / 140) + x % 140 / 4) (d := x % 140) ?_ rfl ?_ (by omega) (by omega) (by omega)) bits_4).trans
    (div_real _ _ (by norm_num))
  · clear v
    revert x
    decide +kernel
  · clear v
    revert x
    decide +kernel

end Cert.Proof.Ker

end
-- ==== Proof.KerNet.lean ====
module

public import proofs.«01_k».proof.Proof.KerTabs

/-! # The body's result is the network's

Over the network's tables, what the body computes of two padded signals is the network's result of either. -/

@[expose] public section

noncomputable section

namespace Cert.Proof.Ker

open Idealize.ShloMosaic

/-- Of a sum in which every term outside a window is zero, the window's terms are left. -/
theorem sum_window {n : ℕ} (b k : ℕ) (h : b + k ≤ n) (f : ℕ → ℝ) :
    (∑ x : Fin n, if b ≤ (x : ℕ) ∧ (x : ℕ) < b + k then f x else 0) = ∑ d : Fin k, f (b + d) := by
  rw [Fin.sum_univ_eq_sum_range (fun x => if b ≤ x ∧ x < b + k then f x else 0) n, ← Finset.sum_filter,
    Fin.sum_univ_eq_sum_range (fun d => f (b + d)) k]
  have : (Finset.range n).filter (fun x => b ≤ x ∧ x < b + k) = Finset.Ico b (b + k) := by
    ext x
    simp only [Finset.mem_filter, Finset.mem_range, Finset.mem_Ico]
    omega
  rw [this, Finset.sum_Ico_eq_sum_range, Nat.add_sub_cancel_left]

variable (N : Net) (t : ℕ)

/-- A lane's window of the two signals is a window of its own signal. -/
theorem sig2_lane (n k l : ℕ) (hk : k < 32) (hl : l < 2000) :
    sig2 N t n (k + lane l) = N.xp (2 * t + l / 1000) n (k + l % 1000) := by
  unfold sig2 lane
  by_cases h : l < 1000
  · rw [if_pos h, if_pos (by omega), show l / 1000 = 0 by omega, show l % 1000 = l by omega, Nat.add_zero]
  · rw [if_neg h, if_neg (by omega), show l / 1000 = 1 by omega]
    congr 1
    omega

/-- The features as one sum over the taps. -/
theorem hw_eq (b n p o : ℕ) : (∑ k : Fin 32, wf N k o * N.xp b n (k + p)) + wb N o = N.hw b n p o := by
  unfold wf wb Net.hw Net.conv
  simp only [Finset.sum_mul, add_mul, Finset.sum_add_distrib]
  rw [Finset.sum_comm]
  congr 1
  refine Finset.sum_congr rfl fun f _ => Finset.sum_congr rfl fun k _ => ?_
  ring

/-- A sum over the features that a head selects. -/
theorem head_sum (w : ℕ → ℝ) (s : ℕ → ℕ → ℝ) (h : ℕ) (hh : h < 4) :
    (∑ x : Fin 32, w x * (s (x / 8) (x % 8) * if (x : ℕ) / 8 = h then 1 else 0)) = ∑ d : Fin 8, w (h * 8 + d) * s h d := by
  rw [sum_groups 4 8 32 rfl (fun x => w x * (s (x / 8) (x % 8) * if x / 8 = h then 1 else 0)),
    ← sum_at h hh (fun i => ∑ d : Fin 8, w (i * 8 + d) * s i d)]
  refine Finset.sum_congr rfl fun i _ => ?_
  by_cases hi : h = (i : ℕ)
  · rw [if_pos hi]
    refine Finset.sum_congr rfl fun d _ => ?_
    rw [show (8 * (i : ℕ) + d) / 8 = i by omega, show (8 * (i : ℕ) + d) % 8 = d by omega, if_pos hi.symm, mul_one, Nat.mul_comm 8]
  · rw [if_neg hi]
    refine Finset.sum_eq_zero fun d _ => ?_
    rw [show (8 * (i : ℕ) + d) / 8 = i by omega, if_neg (Ne.symm hi), mul_zero, mul_zero]

/-- The first product's row for a column of the extended projection and a node. -/
theorem row (o n l : ℕ) (hn : n < 22) (hl : l < 2000) :
    (tabs N).A (sig2 N t) (22 * o + n) l
      = (∑ k : Fin 32, ext N (wf N k) o * N.xp (2 * t + l / 1000) n (k + l % 1000)) + ext N (wb N) o := by
  unfold Tabs.A nf
  have ho : (22 * o + n) / 22 = o := by omega
  have hm : (22 * o + n) % 22 = n := by omega
  refine congrArg₂ _ ?_ (by show ext N (wb N) ((22 * o + n) / 22) = _; rw [ho])
  rw [sum_groups 32 22 704 rfl (fun q => (tabs N).G (22 * o + n) q * sig2 N t (q % 22) (q / 22 + lane l))]
  refine Finset.sum_congr rfl fun k _ => ?_
  rw [← sig2_lane N t n k l k.isLt hl, ← sum_at n hn (fun j => ext N (wf N k) o * sig2 N t j (k + lane l))]
  refine Finset.sum_congr rfl fun j _ => ?_
  show ext N (wf N ((22 * k + j) / 22)) ((22 * o + n) / 22) * (if (22 * o + n) % 22 = (22 * k + j) % 22 then 1 else 0) * _ = _
  rw [ho, hm, show (22 * (k : ℕ) + j) / 22 = k by omega, show (22 * (k : ℕ) + j) % 22 = j by omega]
  by_cases h : n = (j : ℕ) <;> simp [h]

/-- The rows of the features. -/
theorem row_hw (o n l : ℕ) (ho : o < 32) (hn : n < 22) (hl : l < 2000) :
    (tabs N).A (sig2 N t) (22 * o + n) l = N.hw (2 * t + l / 1000) n (l % 1000) o := by
  rw [row N t o n l hn hl, ← hw_eq]
  simp only [ext, if_pos ho]

/-- A head's score of a node as one sum over the taps. -/
theorem score_eq (s : ℕ → ℕ → ℝ) (b n p h : ℕ) :
    (∑ k : Fin 32, (∑ d : Fin 8, wf N k (h * 8 + d) * s h d) * N.xp b n (k + p)) + ∑ d : Fin 8, wb N (h * 8 + d) * s h d
      = ∑ d : Fin 8, N.hw b n p (h * 8 + d) * s h d := by
  simp only [← hw_eq, add_mul, Finset.sum_mul, Finset.sum_add_distrib]
  rw [Finset.sum_comm]
  congr 1
  refine Finset.sum_congr rfl fun f _ => Finset.sum_congr rfl fun k _ => ?_
  ring

/-- The rows of the scores as a source. -/
theorem row_src (h n l : ℕ) (hh : h < 4) (hn : n < 22) (hl : l < 2000) :
    (tabs N).A (sig2 N t) (704 + (h * 22 + n)) l = N.aS (2 * t + l / 1000) n (l % 1000) h := by
  rw [show 704 + (h * 22 + n) = 22 * (32 + h) + n by omega, row N t _ n l hn hl]
  simp only [ext, if_neg (show ¬ 32 + h < 32 by omega), if_pos (show 32 + h - 32 < 4 by omega)]
  rw [show 32 + h - 32 = h by omega, head_sum _ N.ats h hh, Net.aS, ← score_eq]
  simp only [head_sum _ N.ats h hh]

/-- The rows of the scores as a destination. -/
theorem row_dst (h n l : ℕ) (hh : h < 4) (hn : n < 22) (hl : l < 2000) :
    (tabs N).A (sig2 N t) (792 + (h * 22 + n)) l = N.aD (2 * t + l / 1000) n (l % 1000) h := by
  rw [show 792 + (h * 22 + n) = 22 * (36 + h) + n by omega, row N t _ n l hn hl]
  simp only [ext, if_neg (show ¬ 36 + h < 32 by omega), if_neg (show ¬ 36 + h - 32 < 4 by omega)]
  rw [show 36 + h - 32 - 4 = h by omega, head_sum _ N.atd h hh, Net.aD, ← score_eq]
  simp only [head_sum _ N.atd h hh]

/-- The edges' weights. -/
theorem weight (r l : ℕ) (hr : r < 440) (hl : l < 2000) :
    (tabs N).W (sig2 N t) r l = N.ee (2 * t + l / 1000) (r % 110) (l % 1000) (r / 110) := by
  have hh : r / 110 < 4 := by omega
  unfold Tabs.W Net.ee
  congr 2
  · unfold sc Net.e
    rw [row_src N t _ _ l hh ((tabs N).gs_lt _) hl, row_dst N t _ _ l hh ((tabs N).gd_lt _) hl]
    rfl
  · unfold bd Net.cb top
    congr 2
    · refine Finset.sup'_congr _ rfl fun n _ => row_src N t _ n l hh n.isLt hl
    · refine Finset.sup'_congr _ rfl fun n _ => row_dst N t _ n l hh n.isLt hl

/-- The sums of the weights that end at a node. -/
theorem denom (c l : ℕ) (hc : c < 88) (hl : l < 2000) :
    dn (tabs N).gd ((tabs N).W (sig2 N t)) c l = N.den (2 * t + l / 1000) (c % 22) (l % 1000) (c / 22) := by
  unfold dn
  rw [hot_sum (fun r => (tabs N).W (sig2 N t) r l) c hc]
  refine Finset.sum_congr rfl fun j _ => ?_
  rw [weight N t _ l (by omega) hl, show (110 * (c / 22) + (j : ℕ)) % 110 = j by omega, show (110 * (c / 22) + (j : ℕ)) / 110 = c / 22 by omega]
  rfl

/-- The edges' shares. -/
theorem share (r l : ℕ) (hr : r < 440) (hl : l < 2000) :
    sh (tabs N).gd ((tabs N).W (sig2 N t)) r l = N.al (2 * t + l / 1000) (r % 110) (l % 1000) (r / 110) := by
  have hg := (tabs N).gd_lt (r % 110)
  unfold sh
  rw [hot_pick (tabs N).gd_lt (fun c => 1 / (dn (tabs N).gd ((tabs N).W (sig2 N t)) c l + tiny)) r hr,
    denom N t _ l (by omega) hl, weight N t r l hr hl,
    show (r / 110 * 22 + (tabs N).gd (r % 110)) % 22 = (tabs N).gd (r % 110) by omega,
    show (r / 110 * 22 + (tabs N).gd (r % 110)) / 22 = r / 110 by omega, mul_one_div]
  rfl

/-- The sums of the shares that begin at a node. -/
theorem shares (c l : ℕ) (hc : c < 88) (hl : l < 2000) :
    ws (tabs N).gs (tabs N).gd ((tabs N).W (sig2 N t)) c l
      = ∑ j : Fin 110, if c % 22 = N.src j then N.al (2 * t + l / 1000) j (l % 1000) (c / 22) else 0 := by
  unfold ws
  rw [hot_sum (fun r => sh (tabs N).gd ((tabs N).W (sig2 N t)) r l) c hc]
  refine Finset.sum_congr rfl fun j _ => ?_
  rw [share N t _ l (by omega) hl, show (110 * (c / 22) + (j : ℕ)) % 110 = j by omega, show (110 * (c / 22) + (j : ℕ)) / 110 = c / 22 by omega]
  rfl

/-- A feature's row picks its head's shares. -/
theorem picked (o n l : ℕ) (ho : o < 32) (hn : n < 22) (hl : l < 2000) :
    (∑ c : Fin 88, (tabs N).Rh (22 * o + n) c * ws (tabs N).gs (tabs N).gd ((tabs N).W (sig2 N t)) c l)
      = ∑ j : Fin 110, if n = N.src j then N.al (2 * t + l / 1000) j (l % 1000) (o / 8) else 0 := by
  have key := shares N t (o / 8 * 22 + n) l (by omega) hl
  rw [show (o / 8 * 22 + n) % 22 = n by omega, show (o / 8 * 22 + n) / 22 = o / 8 by omega] at key
  rw [← key, ← sum_at (o / 8 * 22 + n) (n := 88) (by omega) (fun c => ws (tabs N).gs (tabs N).gd ((tabs N).W (sig2 N t)) c l)]
  refine Finset.sum_congr rfl fun c _ => ?_
  show ((if (22 * o + n) / 22 / 8 = (c : ℕ) / 22 then 1 else 0) * if (22 * o + n) % 22 = (c : ℕ) % 22 then 1 else 0) * _ = _
  rw [show (22 * o + n) / 22 = o by omega, show (22 * o + n) % 22 = n by omega]
  by_cases h : o / 8 * 22 + n = c
  · rw [if_pos h, if_pos (by omega), if_pos (by omega), one_mul, one_mul]
  · rw [if_neg h]
    by_cases h' : o / 8 = (c : ℕ) / 22
    · rw [if_neg (show ¬ n = (c : ℕ) % 22 by omega), mul_zero, zero_mul]
    · rw [if_neg h', zero_mul, zero_mul]

/-- The mean over the nodes, normalised. -/
theorem mean (o l : ℕ) (ho : o < 32) (hl : l < 2000) :
    zk ((tabs N).A (sig2 N t)) (tabs N).gs (tabs N).gd ((tabs N).W (sig2 N t)) (tabs N).Rh (tabs N).Q (tabs N).sg (tabs N).bg o l
      = N.z (2 * t + l / 1000) o (l % 1000) := by
  have hsum : (∑ q : Fin 704, (tabs N).Q o q * ((tabs N).A (sig2 N t) q l
      * ∑ c : Fin 88, (tabs N).Rh q c * ws (tabs N).gs (tabs N).gd ((tabs N).W (sig2 N t)) c l))
      = N.agg (2 * t + l / 1000) o (l % 1000) := by
    rw [sum_groups 32 22 704 rfl (fun q => (tabs N).Q o q * ((tabs N).A (sig2 N t) q l
      * ∑ c : Fin 88, (tabs N).Rh q c * ws (tabs N).gs (tabs N).gd ((tabs N).W (sig2 N t)) c l))]
    have hin : ∀ i : Fin 32, (∑ j : Fin 22, (tabs N).Q o (22 * i + j) * ((tabs N).A (sig2 N t) (22 * i + j) l
        * ∑ c : Fin 88, (tabs N).Rh (22 * i + j) c * ws (tabs N).gs (tabs N).gd ((tabs N).W (sig2 N t)) c l))
        = if o = (i : ℕ) then ∑ n : Fin 22, N.hw (2 * t + l / 1000) n (l % 1000) i
          * ∑ j : Fin 110, (if (n : ℕ) = N.src j then N.al (2 * t + l / 1000) j (l % 1000) (i / 8) else 0) else 0 := by
      intro i
      have hQ : ∀ j : Fin 22, (tabs N).Q o (22 * i + j) = if o = (i : ℕ) then 1 else 0 := by
        intro j
        show (if o = (22 * (i : ℕ) + j) / 22 then (1 : ℝ) else 0) = _
        rw [show (22 * (i : ℕ) + j) / 22 = i by omega]
      by_cases h : o = (i : ℕ)
      · rw [if_pos h]
        refine Finset.sum_congr rfl fun n _ => ?_
        rw [hQ, if_pos h, one_mul, row_hw N t i n l i.isLt n.isLt hl, picked N t i n l i.isLt n.isLt hl]
      · rw [if_neg h]
        refine Finset.sum_eq_zero fun n _ => ?_
        rw [hQ, if_neg h, zero_mul]
    rw [Finset.sum_congr rfl fun i _ => hin i,
      sum_at o ho (fun i => ∑ n : Fin 22, N.hw (2 * t + l / 1000) n (l % 1000) i
          * ∑ j : Fin 110, (if (n : ℕ) = N.src j then N.al (2 * t + l / 1000) j (l % 1000) (i / 8) else 0))]
    simp only [Finset.mul_sum, mul_ite, mul_zero]
    rw [Finset.sum_comm]
    refine Finset.sum_congr rfl fun j _ => ?_
    rw [← sum_at (N.src j) (N.src_lt j) (fun n => N.hw (2 * t + l / 1000) n (l % 1000) o * N.al (2 * t + l / 1000) j (l % 1000) (o / 8))]
    exact Finset.sum_congr rfl fun n _ => by simp only [eq_comm]
  unfold zk
  rw [hsum]
  show N.agg _ o _ * (N.gg o * (1 / root) / 22) + (N.bias o * (N.gg o * (1 / root)) + N.bg o) = _
  unfold Net.z
  ring

/-- The first pool. -/
theorem pooled (i o u : ℕ) (hi : i < 2) (ho : o < 32) (hu : u < 125) :
    pk ((tabs N).A (sig2 N t)) (tabs N).gs (tabs N).gd ((tabs N).W (sig2 N t)) (tabs N).Rh (tabs N).Q (tabs N).sg (tabs N).bg
      (tabs N).p8 o (125 * i + u) = N.p (2 * t + i) o u := by
  unfold pk Net.p
  have hterm : ∀ l : Fin 2000, elu (zk ((tabs N).A (sig2 N t)) (tabs N).gs (tabs N).gd ((tabs N).W (sig2 N t)) (tabs N).Rh (tabs N).Q
      (tabs N).sg (tabs N).bg o l) * (tabs N).p8 l (125 * i + u)
      = if 8 * (125 * i + u) ≤ (l : ℕ) ∧ (l : ℕ) < 8 * (125 * i + u) + 8 then elu (N.z (2 * t + l / 1000) o (l % 1000)) / 8 else 0 := by
    intro l
    rw [mean N t o l ho l.isLt]
    show _ * ((if (l : ℕ) / 8 = 125 * i + u then 1 else 0) / 8) = _
    by_cases h : (l : ℕ) / 8 = 125 * i + u
    · rw [if_pos h, if_pos (by omega), mul_one_div]
    · rw [if_neg h, if_neg (by omega), zero_div, mul_zero]
  rw [Finset.sum_congr rfl fun l _ => hterm l,
    sum_window (8 * (125 * i + u)) 8 (by omega) (fun l => elu (N.z (2 * t + l / 1000) o (l % 1000)) / 8), Finset.sum_div]
  refine Finset.sum_congr rfl fun d _ => ?_
  rw [show (8 * (125 * i + u) + (d : ℕ)) / 1000 = i by omega, show (8 * (125 * i + u) + (d : ℕ)) % 1000 = u * 8 + d by omega]

/-- The first pool, padded. -/
theorem padded_pool (i o s : ℕ) (hi : i < 2) (ho : o < 32) (hs : s < 140) :
    (tabs N).Z (sig2 N t) o (140 * i + s) = N.zp (2 * t + i) o s := by
  unfold Tabs.Z Net.zp
  have h01 : i = 0 ∨ i = 1 := by omega
  by_cases h : 7 ≤ s ∧ s < 132
  · rw [if_pos h]
    rcases h01 with rfl | rfl
    · rw [if_pos (by omega), ← pooled N t 0 o (s - 7) (by omega) ho (by omega)]
      congr 1
      omega
    · rw [if_neg (by omega), if_pos (by omega), ← pooled N t 1 o (s - 7) (by omega) ho (by omega)]
      congr 1
      omega
  · rw [if_neg h, if_neg (by omega), if_neg (by omega)]

/-- The second convolution, normalised. -/
theorem second (i o u : ℕ) (hi : i < 2) (hu : u < 124) :
    ck ((tabs N).Z (sig2 N t)) (tabs N).w (tabs N).s (tabs N).b o (140 * i + u) = N.c3 (2 * t + i) o u := by
  unfold ck Net.c3
  have hsum : (∑ q : Fin 512, (tabs N).w o q * (tabs N).Z (sig2 N t) (q % 32) (q / 32 + (140 * i + u)))
      = ∑ k : Fin 16, ∑ j : Fin 32, N.w3 o j k * N.zp (2 * t + i) j (k + u) := by
    rw [sum_groups 16 32 512 rfl (fun q => (tabs N).w o q * (tabs N).Z (sig2 N t) (q % 32) (q / 32 + (140 * i + u)))]
    refine Finset.sum_congr rfl fun k _ => Finset.sum_congr rfl fun j _ => ?_
    show N.w3 o ((32 * k + j) % 32) ((32 * k + j) / 32) * _ = _
    rw [show (32 * (k : ℕ) + j) % 32 = j by omega, show (32 * (k : ℕ) + j) / 32 = k by omega,
      show (k : ℕ) + (140 * i + u) = 140 * i + (k + u) by omega, padded_pool N t i j (k + u) hi j.isLt (by omega)]
  rw [hsum]
  show _ * (N.g3 o * (1 / root)) + N.b3 o = _
  rw [mul_one_div]

/-- The body's result is the network's. -/
theorem out_eq (i o v : ℕ) (hi : i < 2) (hv : v < 31) : (tabs N).out (sig2 N t) o (31 * i + v) = N.res (2 * t + i) o v := by
  unfold Tabs.out ok Net.res
  have hterm : ∀ x : Fin 265, elu (ck ((tabs N).Z (sig2 N t)) (tabs N).w (tabs N).s (tabs N).b o x) * (tabs N).p4 x (31 * i + v)
      = if 140 * i + 4 * v ≤ (x : ℕ) ∧ (x : ℕ) < 140 * i + 4 * v + 4
        then elu (ck ((tabs N).Z (sig2 N t)) (tabs N).w (tabs N).s (tabs N).b o x) / 4 else 0 := by
    intro x
    show _ * ((if 31 * ((x : ℕ) / 140) + (x : ℕ) % 140 / 4 = 31 * i + v ∧ (x : ℕ) % 140 < 124 then 1 else 0) / 4) = _
    by_cases h : 140 * i + 4 * v ≤ (x : ℕ) ∧ (x : ℕ) < 140 * i + 4 * v + 4
    · rw [if_pos h, if_pos (by omega), mul_one_div]
    · rw [if_neg h, if_neg (by omega), zero_div, mul_zero]
  rw [Finset.sum_congr rfl fun x _ => hterm x,
    sum_window (140 * i + 4 * v) 4 (by omega)
      (fun x => elu (ck ((tabs N).Z (sig2 N t)) (tabs N).w (tabs N).s (tabs N).b o x) / 4), Finset.sum_div]
  refine Finset.sum_congr rfl fun d _ => ?_
  rw [show 140 * i + 4 * v + (d : ℕ) = 140 * i + (v * 4 + d) by omega, second N t i o (v * 4 + d) hi (by omega)]

end Cert.Proof.Ker

end
-- ==== Proof.KerEnd.lean ====
module

public import proofs.«01_k».proof.Proof.KerHost
public import proofs.«01_k».proof.Proof.KerGraph
public import proofs.«01_k».proof.Proof.KerOnes
public import proofs.«01_k».proof.Proof.KerP8
public import proofs.«01_k».proof.Proof.KerP4
public import proofs.«01_k».proof.Proof.KerNet
public import proofs.«01_k».proof.Proof.Gen.KernelIdeal.Value
import Idealize.ShloMosaic.Lib.Pipeline.ValueKit

/-! # What the kernel leaves in its result array

Grid point `t` reads the `t`-th pair of signals and the whole of every table, and writes the results of samples `2t` and
`2t + 1`. -/

@[expose] public section
noncomputable section
namespace Cert.Proof.Ker
open Idealize.ShloMosaic Cert.KernelIdeal Cert.KernelIdeal.Gen Cert.KernelIdeal.Facts Cert.KernelIdeal.Value Idealize.ShloMosaic.TcCoe

variable {m : (ℓ : Loc nD τ Cert.KernelIdeal.sig) → Buf (Elt Ideal) ℓ} {c : Dev nD} {N : Net}

/-- The signals and the result are taken block by block; every table is one block. -/
theorem idx : ∀ t : Fin cfg0.N, win0_0.index t = ![t.val, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0]
    ∧ win0_14.index t = ![t.val, 0, 0] :=
  (by decide +kernel : ∀ t : Fin grid0.N, _)

set_option maxHeartbeats 4000000 in
/-- What grid point `t` reads: its two signals, and every table. -/
theorem read (R : KerReads N m c) (t : Fin cfg0.N) :
    Blk (sig2 N t) (tabs N) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) where
  h0 n s := Eq.trans (by blk_ext [iblk, idx t]) (a_sig R ⟨t.val, t.isLt⟩ n s)
  h1 r q := Eq.trans (by blk_ext [iblk, idx t]) (a_G R r q)
  h2 r := Eq.trans (by blk_ext [iblk, idx t]) (a_c R r)
  h3s e := (Eq.trans (by blk_ext [iblk, idx t]) (a_ei 0 e)).trans (R.src e)
  h3d e := (Eq.trans (by blk_ext [iblk, idx t]) (a_ei 1 e)).trans (R.dst e)
  h4s e := (Eq.trans (by blk_ext [iblk, idx t]) (a_eit 0 e)).trans (R.src e)
  h4d e := (Eq.trans (by blk_ext [iblk, idx t]) (a_eit 1 e)).trans (R.dst e)
  h5 q k := Eq.trans (by blk_ext [iblk, idx t]) (a_Rh q k)
  h6 o q := Eq.trans (by blk_ext [iblk, idx t]) (a_Q o q)
  h7 o := Eq.trans (by blk_ext [iblk, idx t]) (a_sg R o)
  h8 o := Eq.trans (by blk_ext [iblk, idx t]) (a_bg R o)
  h9 o q := Eq.trans (by blk_ext [iblk, idx t]) (a_w R o q)
  h10 o := Eq.trans (by blk_ext [iblk, idx t]) (a_s R o)
  h11 o := Eq.trans (by blk_ext [iblk, idx t]) (a_b R o)
  h12 l u := Eq.trans (by blk_ext [iblk, idx t]) (a_p8 l u)
  h13 x v := Eq.trans (by blk_ext [iblk, idx t]) (a_p4 x v)

/-- Where the block of point `t` lies in the result array. -/
theorem place (t : Fin cfg0.N) (i : Fin 2) (o : Fin 32) (v : Fin 31) (h : 2 * t.val + i.val < 16) :
    ((win0_14.blk t).view.emb (ix3 i o v) : S16x32x31.Idx) = ix3 ⟨2 * t.val + i.val, h⟩ o v := by
  blk_ext [idx t]

/-- After the last grid point the result array holds every sample's results. -/
theorem left (R : KerReads N m c) (b : Fin 16) (o : Fin 32) (v : Fin 31) :
    ((dats m 0 c).arrAt 14 cfg0.N : Vec Ideal S16x32x31 .f32) (ix3 b o v) = ((N.res b o v : ℝ) : EReal) := by
  obtain ⟨t, i, hb⟩ : ∃ (t : Fin cfg0.N) (i : Fin 2), b.val = 2 * t.val + i.val :=
    ⟨⟨b.val / 2, (by omega : b.val / 2 < 8)⟩, ⟨b.val % 2, by omega⟩, by dsimp only; omega⟩
  have h := congrFun (blocks14 m c t (flush0_14 _)) (ix3 i o v)
  rw [flushed14] at h
  blk_simp [idx t] at h
  have hp := place t i o v (hb ▸ b.isLt)
  have hx : b = ⟨2 * t.val + i.val, hb ▸ b.isLt⟩ := Fin.ext hb
  rw [hp, ← hx] at h
  rw [hb]
  refine h.trans ((stored (read R t) i o v).trans ?_)
  rw [out_eq N t i o v i.isLt v.isLt]

end Cert.Proof.Ker
end
-- ==== Proof.RefConv.lean ====
module

public import proofs.«01_k».proof.Proof.Model
public import proofs.«01_k».proof.Proof.Gen.ReferenceIdeal.Run
public import Idealize.ShloMosaic.Lib.Pointwise
public import Idealize.ShloMosaic.Lib.Tactic.CleanTypes

/-! # The reference up to the projected features -/

@[expose] public section

noncomputable section

namespace Cert.Proof.Ref

open Idealize.ShloMosaic Cert.ReferenceIdeal Cert.ReferenceIdeal.Value Cert.ReferenceIdeal.Facts

/-- The reference's arguments hold the network's numbers. -/
abbrev RefReads (N : Net) (V0 : Valuation τ sig (Elt Ideal)) : Prop :=
  Reads N (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8))
    (V0 (Proc.devRef .tc main_arg9)) (V0 (Proc.devRef .tc main_arg10)) (V0 (Proc.devRef .tc main_arg11))
    (V0 (Proc.devRef .tc main_arg12)) (V0 (Proc.devRef .tc main_arg13))

variable {N : Net} {V0 : Valuation τ sig (Elt Ideal)} (R : RefReads N V0)

include R

set_option maxHeartbeats 4000000 in
/-- The padded signal. -/
theorem padded (b : Fin 16) (n : Fin 22) (s : Fin 1031) : res_main_v5 V0 (ix3 b n s) = ((N.xp b n s : ℝ) : EReal) := by
  unfold res_main_v5
  clean_types
  pointwise
  rw [Net.xp]
  by_cases h : 15 ≤ (s : ℕ) ∧ (s : ℕ) < 1015
  · rw [dif_pos (by omega), if_pos h]
    exact R.x _ _ _ _
  · rw [dif_neg (by omega), if_neg h]
    show (((0#32).toInt : ℝ) : EReal) = ((0 : ℝ) : EReal)
    simp

set_option maxHeartbeats 4000000 in
/-- The first 7 taps. -/
theorem taps7 (b f : Fin 16) (n : Fin 22) (t : Fin 1000) :
    res_main_v69 V0 (ix4 b f n t) = ((∑ k : Fin 7, N.xp b n (k + t) * N.w1 f k : ℝ) : EReal) := by
  unfold res_main_v69
  clean_types
  pointwise
  simp [padded R, R.w1, Fin.sum_univ_castSucc]

set_option maxHeartbeats 4000000 in
/-- The first 14 taps. -/
theorem taps14 (b f : Fin 16) (n : Fin 22) (t : Fin 1000) :
    res_main_v132 V0 (ix4 b f n t) = ((∑ k : Fin 14, N.xp b n (k + t) * N.w1 f k : ℝ) : EReal) := by
  unfold res_main_v132
  clean_types
  pointwise
  simp [taps7 R, padded R, R.w1, Fin.sum_univ_castSucc]

set_option maxHeartbeats 4000000 in
/-- The first 21 taps. -/
theorem taps21 (b f : Fin 16) (n : Fin 22) (t : Fin 1000) :
    res_main_v195 V0 (ix4 b f n t) = ((∑ k : Fin 21, N.xp b n (k + t) * N.w1 f k : ℝ) : EReal) := by
  unfold res_main_v195
  clean_types
  pointwise
  simp [taps14 R, padded R, R.w1, Fin.sum_univ_castSucc]

set_option maxHeartbeats 4000000 in
/-- The first 28 taps. -/
theorem taps28 (b f : Fin 16) (n : Fin 22) (t : Fin 1000) :
    res_main_v258 V0 (ix4 b f n t) = ((∑ k : Fin 28, N.xp b n (k + t) * N.w1 f k : ℝ) : EReal) := by
  unfold res_main_v258
  clean_types
  pointwise
  simp [taps21 R, padded R, R.w1, Fin.sum_univ_castSucc]

omit R in
/-- The normalisation's root. -/
theorem root_read : (id (Host.sqrt (constant (F := Ideal) S_ .f32 0x3F800054#32)) ix0 : EReal) = ((root : ℝ) : EReal) :=
  bits_root

set_option maxHeartbeats 4000000 in
/-- The projected features. -/
theorem hw (b : Fin 16) (n : Fin 22) (t : Fin 1000) (h : Fin 4) (d : Fin 8) :
    res_main_v307 V0 (ix5 n b t h d) = ((N.hw b n t (h * 8 + d) : ℝ) : EReal) := by
  unfold res_main_v307
  clean_types
  pointwise [dot_S22x16x1000x16_S16x32_S22x16x1000x32_3_0_012_1_n_n]
  rw [Net.hw, ← coe_fsum]
  refine Finset.sum_congr rfl fun f _ => ?_
  rw [root_read, R.g1, div_real _ _ root_pos.ne', taps28 R, R.b1, R.W, Net.conv]
  simp [padded R, R.w1, Fin.sum_univ_castSucc]

set_option maxHeartbeats 4000000 in
/-- The sources' scores. -/
theorem score_src (b : Fin 16) (n : Fin 22) (t : Fin 1000) (h : Fin 4) :
    res_main_v311 V0 (ix4 n b t h) = ((N.aS b n t h : ℝ) : EReal) := by
  unfold res_main_v311
  clean_types
  pointwise
  simp only [hw R, R.ats, Net.aS, ← coe_fsum, EReal.coe_mul]

set_option maxHeartbeats 4000000 in
/-- The destinations' scores. -/
theorem score_dst (b : Fin 16) (n : Fin 22) (t : Fin 1000) (h : Fin 4) :
    res_main_v315 V0 (ix4 n b t h) = ((N.aD b n t h : ℝ) : EReal) := by
  unfold res_main_v315
  clean_types
  pointwise
  simp only [hw R, R.atd, Net.aD, ← coe_fsum, EReal.coe_mul]

end Cert.Proof.Ref

end
-- ==== Proof.RefRows.lean ====
module

public import proofs.«01_k».proof.Proof.RefConv
public import Idealize.ShloMosaic.Lib.Routing.OpsPair

/-! # The reference's reads and sums along the edges, at an index -/

@[expose] public section

noncomputable section

namespace Cert.Proof.Ref

open Idealize.ShloMosaic Cert.ReferenceIdeal Cert.ReferenceIdeal.Value Cert.ReferenceIdeal.Facts

/-- A small natural number read signed off its word, and no more than twenty-one, is itself. -/
theorem word_row (n : ℕ) (hn : n < 22) : min (BitVec.ofNat 32 n).toInt.toNat 21 = n := by
  have h : (BitVec.ofNat 32 n).toInt = n := by
    rw [BitVec.toInt_eq_toNat_of_lt (by rw [BitVec.toNat_ofNat]; omega), BitVec.toNat_ofNat]
    congr 1
    omega
  rw [h]
  omega

/-- A small natural number read signed off its word. -/
theorem word_int (n : ℕ) (hn : n < 22) : (BitVec.ofNat 32 n).toInt = n := by
  rw [BitVec.toInt_eq_toNat_of_lt (by rw [BitVec.toNat_ofNat]; omega), BitVec.toNat_ofNat]
  congr 1
  omega

/-- A row per edge of a table of scores: the table's row at the edge's node. -/
theorem take4 {α : Type} (x : S22x16x1000x4.Idx → α) (idx : IVec S110x1 32) (e : Fin 110) (b : Fin 16) (t : Fin 1000)
    (h : Fin 4) (n : ℕ) (hn : n < 22) (hi : idx (ix2 e 0) = BitVec.ofNat 32 n) :
    Host.gather gather_S22x16x1000x4_S110x1_S110x16x1000x4_123_0_n_n_0_1_11610004 x idx (ix4 e b t h)
      = x (ix4 ⟨n, hn⟩ b t h) := by
  unfold Host.gather
  congr 1
  funext a
  refine Fin.ext ?_
  show GatherDims.start _ _ _ a + GatherDims.batchCoord _ _ a + GatherDims.offCoord _ _ a = _
  rw [GatherDims.batchCoord_eq_zero _ _ _ (fun h => by simp [gather_S22x16x1000x4_S110x1_S110x16x1000x4_123_0_n_n_0_1_11610004] at h)]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 4) ∈ gather_S22x16x1000x4_S110x1_S110x16x1000x4_123_0_n_n_0_1_11610004.startIndexMap from List.mem_singleton.mpr rfl)]
    refine Eq.trans ?_ (word_row n hn)
    rw [← hi]
    show min (idx _).toInt.toNat 21 = _
    congr 4
    funext c
    match c with
    | ⟨0, _⟩ => rfl
    | ⟨1, _⟩ => rfl
  | ⟨1, _⟩ =>
    unfold GatherDims.start GatherDims.offCoord
    rw [dif_neg (show (⟨1, by decide⟩ : Fin 4) ∉ gather_S22x16x1000x4_S110x1_S110x16x1000x4_123_0_n_n_0_1_11610004.startIndexMap by decide), dif_pos (show (⟨1, by decide⟩ : Fin 4) ∈ gather_S22x16x1000x4_S110x1_S110x16x1000x4_123_0_n_n_0_1_11610004.sKept by decide),
      Nat.zero_add]
    rfl
  | ⟨2, _⟩ =>
    unfold GatherDims.start GatherDims.offCoord
    rw [dif_neg (show (⟨2, by decide⟩ : Fin 4) ∉ gather_S22x16x1000x4_S110x1_S110x16x1000x4_123_0_n_n_0_1_11610004.startIndexMap by decide), dif_pos (show (⟨2, by decide⟩ : Fin 4) ∈ gather_S22x16x1000x4_S110x1_S110x16x1000x4_123_0_n_n_0_1_11610004.sKept by decide),
      Nat.zero_add]
    rfl
  | ⟨3, _⟩ =>
    unfold GatherDims.start GatherDims.offCoord
    rw [dif_neg (show (⟨3, by decide⟩ : Fin 4) ∉ gather_S22x16x1000x4_S110x1_S110x16x1000x4_123_0_n_n_0_1_11610004.startIndexMap by decide), dif_pos (show (⟨3, by decide⟩ : Fin 4) ∈ gather_S22x16x1000x4_S110x1_S110x16x1000x4_123_0_n_n_0_1_11610004.sKept by decide),
      Nat.zero_add]
    rfl

/-- A row per edge of a table of features: the table's row at the edge's node. -/
theorem take5 {α : Type} (x : S22x16x1000x4x8.Idx → α) (idx : IVec S110x1 32) (e : Fin 110) (b : Fin 16) (t : Fin 1000)
    (h : Fin 4) (d : Fin 8) (n : ℕ) (hn : n < 22) (hi : idx (ix2 e 0) = BitVec.ofNat 32 n) :
    Host.gather gather_S22x16x1000x4x8_S110x1_S110x16x1000x4x8_1234_0_n_n_0_1_116100048 x idx (ix5 e b t h d)
      = x (ix5 ⟨n, hn⟩ b t h d) := by
  unfold Host.gather
  congr 1
  funext a
  refine Fin.ext ?_
  show GatherDims.start _ _ _ a + GatherDims.batchCoord _ _ a + GatherDims.offCoord _ _ a = _
  rw [GatherDims.batchCoord_eq_zero _ _ _ (fun h => by simp [gather_S22x16x1000x4x8_S110x1_S110x16x1000x4x8_1234_0_n_n_0_1_116100048] at h)]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 5) ∈ gather_S22x16x1000x4x8_S110x1_S110x16x1000x4x8_1234_0_n_n_0_1_116100048.startIndexMap from List.mem_singleton.mpr rfl)]
    refine Eq.trans ?_ (word_row n hn)
    rw [← hi]
    show min (idx _).toInt.toNat 21 = _
    congr 4
    funext c
    match c with
    | ⟨0, _⟩ => rfl
    | ⟨1, _⟩ => rfl
  | ⟨1, _⟩ =>
    unfold GatherDims.start GatherDims.offCoord
    rw [dif_neg (show (⟨1, by decide⟩ : Fin 5) ∉ gather_S22x16x1000x4x8_S110x1_S110x16x1000x4x8_1234_0_n_n_0_1_116100048.startIndexMap by decide), dif_pos (show (⟨1, by decide⟩ : Fin 5) ∈ gather_S22x16x1000x4x8_S110x1_S110x16x1000x4x8_1234_0_n_n_0_1_116100048.sKept by decide),
      Nat.zero_add]
    rfl
  | ⟨2, _⟩ =>
    unfold GatherDims.start GatherDims.offCoord
    rw [dif_neg (show (⟨2, by decide⟩ : Fin 5) ∉ gather_S22x16x1000x4x8_S110x1_S110x16x1000x4x8_1234_0_n_n_0_1_116100048.startIndexMap by decide), dif_pos (show (⟨2, by decide⟩ : Fin 5) ∈ gather_S22x16x1000x4x8_S110x1_S110x16x1000x4x8_1234_0_n_n_0_1_116100048.sKept by decide),
      Nat.zero_add]
    rfl
  | ⟨3, _⟩ =>
    unfold GatherDims.start GatherDims.offCoord
    rw [dif_neg (show (⟨3, by decide⟩ : Fin 5) ∉ gather_S22x16x1000x4x8_S110x1_S110x16x1000x4x8_1234_0_n_n_0_1_116100048.startIndexMap by decide), dif_pos (show (⟨3, by decide⟩ : Fin 5) ∈ gather_S22x16x1000x4x8_S110x1_S110x16x1000x4x8_1234_0_n_n_0_1_116100048.sKept by decide),
      Nat.zero_add]
    rfl
  | ⟨4, _⟩ =>
    unfold GatherDims.start GatherDims.offCoord
    rw [dif_neg (show (⟨4, by decide⟩ : Fin 5) ∉ gather_S22x16x1000x4x8_S110x1_S110x16x1000x4x8_1234_0_n_n_0_1_116100048.startIndexMap by decide), dif_pos (show (⟨4, by decide⟩ : Fin 5) ∈ gather_S22x16x1000x4x8_S110x1_S110x16x1000x4x8_1234_0_n_n_0_1_116100048.sKept by decide),
      Nat.zero_add]
    rfl

/-- An edge's scores land in the table's row at the edge's node, at their own place. -/
theorem lands4 (idx : IVec S110x1 32) (e : Fin 110) (n : Fin 22) (b b' : Fin 16) (t t' : Fin 1000) (h h' : Fin 4) :
    scatter_S22x16x1000x4_S110x1_S110x16x1000x4_123_0_0_1.resultIdx? (ix4 e b' t' h') idx = some (ix4 n b t h)
      ↔ (idx (ix2 e 0)).toInt = (n : ℕ) ∧ b' = b ∧ t' = t ∧ h' = h := by
  have hs : (scatter_S22x16x1000x4_S110x1_S110x16x1000x4_123_0_0_1.start (ix4 e b' t' h') idx 0) = (idx (ix2 e 0)).toInt := by
    unfold ScatterDims.start
    rw [dif_pos (show (0 : Fin 4) ∈ scatter_S22x16x1000x4_S110x1_S110x16x1000x4_123_0_0_1.scatterDimsToOperandDims from List.mem_singleton.mpr rfl)]
    congr 2
    funext c
    match c with
    | ⟨0, _⟩ => rfl
    | ⟨1, _⟩ => rfl
  rw [Routing.resultIdx?_eq_some]
  constructor
  · intro q
    have q0 := q 0
    have q1 := q 1
    have q2 := q 2
    have q3 := q 3
    rw [hs] at q0
    change _ + ((0 : ℕ) : ℤ) = ((n : ℕ) : ℤ) at q0
    change (0 : ℤ) + ((b' : ℕ) : ℤ) = ((b : ℕ) : ℤ) at q1
    change (0 : ℤ) + ((t' : ℕ) : ℤ) = ((t : ℕ) : ℤ) at q2
    change (0 : ℤ) + ((h' : ℕ) : ℤ) = ((h : ℕ) : ℤ) at q3
    exact ⟨by omega, Fin.ext (by omega), Fin.ext (by omega), Fin.ext (by omega)⟩
  · rintro ⟨hn, rfl, rfl, rfl⟩ a
    match a with
    | ⟨0, _⟩ =>
      refine (congrArg (· + _) hs).trans ?_
      rw [hn]
      exact add_zero _
    | ⟨1, _⟩ => exact zero_add _
    | ⟨2, _⟩ => exact zero_add _
    | ⟨3, _⟩ => exact zero_add _

/-- An edge's features land in the table's row at the edge's node, at their own place. -/
theorem lands5 (idx : IVec S110x1 32) (e : Fin 110) (n : Fin 22) (b b' : Fin 16) (t t' : Fin 1000) (h h' : Fin 4) (d d' : Fin 8) :
    scatter_S22x16x1000x4x8_S110x1_S110x16x1000x4x8_1234_0_0_1.resultIdx? (ix5 e b' t' h' d') idx = some (ix5 n b t h d)
      ↔ (idx (ix2 e 0)).toInt = (n : ℕ) ∧ b' = b ∧ t' = t ∧ h' = h ∧ d' = d := by
  have hs : (scatter_S22x16x1000x4x8_S110x1_S110x16x1000x4x8_1234_0_0_1.start (ix5 e b' t' h' d') idx 0) = (idx (ix2 e 0)).toInt := by
    unfold ScatterDims.start
    rw [dif_pos (show (0 : Fin 5) ∈ scatter_S22x16x1000x4x8_S110x1_S110x16x1000x4x8_1234_0_0_1.scatterDimsToOperandDims from List.mem_singleton.mpr rfl)]
    congr 2
    funext c
    match c with
    | ⟨0, _⟩ => rfl
    | ⟨1, _⟩ => rfl
  rw [Routing.resultIdx?_eq_some]
  constructor
  · intro q
    have q0 := q 0
    have q1 := q 1
    have q2 := q 2
    have q3 := q 3
    have q4 := q 4
    rw [hs] at q0
    change _ + ((0 : ℕ) : ℤ) = ((n : ℕ) : ℤ) at q0
    change (0 : ℤ) + ((b' : ℕ) : ℤ) = ((b : ℕ) : ℤ) at q1
    change (0 : ℤ) + ((t' : ℕ) : ℤ) = ((t : ℕ) : ℤ) at q2
    change (0 : ℤ) + ((h' : ℕ) : ℤ) = ((h : ℕ) : ℤ) at q3
    change (0 : ℤ) + ((d' : ℕ) : ℤ) = ((d : ℕ) : ℤ) at q4
    exact ⟨by omega, Fin.ext (by omega), Fin.ext (by omega), Fin.ext (by omega), Fin.ext (by omega)⟩
  · rintro ⟨hn, rfl, rfl, rfl, rfl⟩ a
    match a with
    | ⟨0, _⟩ =>
      refine (congrArg (· + _) hs).trans ?_
      rw [hn]
      exact add_zero _
    | ⟨1, _⟩ => exact zero_add _
    | ⟨2, _⟩ => exact zero_add _
    | ⟨3, _⟩ => exact zero_add _
    | ⟨4, _⟩ => exact zero_add _

/-- The sum of the edges' scores into their nodes' rows: at a node, the scores of the edges at that node. -/
theorem gathered4 (x : S22x16x1000x4.Idx → EReal) (idx : IVec S110x1 32) (upd : S110x16x1000x4.Idx → EReal)
    (at' : ℕ → ℕ) (hlt : ∀ e, at' e < 22) (hi : ∀ e : Fin 110, idx (ix2 e 0) = BitVec.ofNat 32 (at' e))
    (n : Fin 22) (b : Fin 16) (t : Fin 1000) (h : Fin 4) :
    Host.scatterAdd (F := Ideal) (φ := .f32) scatter_S22x16x1000x4_S110x1_S110x16x1000x4_123_0_0_1 x idx upd (ix4 n b t h)
      = x (ix4 n b t h) + ∑ e : Fin 110, if (n : ℕ) = at' e then upd (ix4 e b t h) else 0 := by
  show x _ + (∑ j ∈ Finset.univ.filter (fun j => _ = some _), upd j) = _
  rw [Finset.sum_filter, Idealize.ShloMosaic.sum_idx4]
  congr 1
  refine Finset.sum_congr rfl fun e _ => ?_
  simp only [lands4, hi, word_int _ (hlt _)]
  rw [Finset.sum_eq_single b (fun b' _ hb => by simp [hb]) (by simp)]
  rw [Finset.sum_eq_single t (fun t' _ ht => by simp [ht]) (by simp)]
  rw [Finset.sum_eq_single h (fun h' _ hh => by simp [hh]) (by simp)]
  simp [eq_comm]

/-- The sum of the edges' features into their nodes' rows: at a node, the features of the edges at that node. -/
theorem gathered5 (x : S22x16x1000x4x8.Idx → EReal) (idx : IVec S110x1 32) (upd : S110x16x1000x4x8.Idx → EReal)
    (at' : ℕ → ℕ) (hlt : ∀ e, at' e < 22) (hi : ∀ e : Fin 110, idx (ix2 e 0) = BitVec.ofNat 32 (at' e))
    (n : Fin 22) (b : Fin 16) (t : Fin 1000) (h : Fin 4) (d : Fin 8) :
    Host.scatterAdd (F := Ideal) (φ := .f32) scatter_S22x16x1000x4x8_S110x1_S110x16x1000x4x8_1234_0_0_1 x idx upd (ix5 n b t h d)
      = x (ix5 n b t h d) + ∑ e : Fin 110, if (n : ℕ) = at' e then upd (ix5 e b t h d) else 0 := by
  show x _ + (∑ j ∈ Finset.univ.filter (fun j => _ = some _), upd j) = _
  rw [Finset.sum_filter, Idealize.ShloMosaic.sum_idx5]
  congr 1
  refine Finset.sum_congr rfl fun e _ => ?_
  simp only [lands5, hi, word_int _ (hlt _)]
  rw [Finset.sum_eq_single b (fun b' _ hb => by simp [hb]) (by simp)]
  rw [Finset.sum_eq_single t (fun t' _ ht => by simp [ht]) (by simp)]
  rw [Finset.sum_eq_single h (fun h' _ hh => by simp [hh]) (by simp)]
  rw [Finset.sum_eq_single d (fun d' _ hd => by simp [hd]) (by simp)]
  simp [eq_comm]

end Cert.Proof.Ref

end
-- ==== Proof.RefAtt.lean ====
module

public import proofs.«01_k».proof.Proof.RefRows

/-! # The reference's attention -/

@[expose] public section

noncomputable section

namespace Cert.Proof.Ref

open Idealize.ShloMosaic Cert.ReferenceIdeal Cert.ReferenceIdeal.Value Cert.ReferenceIdeal.Gen

variable {N : Net} {V0 : Valuation τ sig (Elt Ideal)} (R : RefReads N V0)

include R

/-- The edges' sources. -/
theorem src_at (e : Fin 110) : res_main_v1 V0 (ix1 e) = BitVec.ofNat 32 (N.src e) := by
  unfold res_main_v1
  clean_types
  pointwise
  exact R.src e

/-- The edges' destinations. -/
theorem dst_at (e : Fin 110) : res_main_v3 V0 (ix1 e) = BitVec.ofNat 32 (N.dst e) := by
  unfold res_main_v3
  clean_types
  pointwise
  exact R.dst e

omit R in
/-- A word that is not negative is not wrapped around. -/
theorem wrap (n : ℕ) (hn : n < 22) (a : BitVec 32) :
    Scalar.select (IntOp.cmpi .slt (BitVec.ofNat 32 n) 0#32) a (BitVec.ofNat 32 n) = BitVec.ofNat 32 n :=
  Routing.wrap_of_lt _ _ (by rw [BitVec.toNat_ofNat]; omega)

/-- The words the reference reads its sources' rows at. -/
theorem src_idx (e : Fin 110) :
    (broadcastInDim S110x1 ![0] bcast_S110_S110x1_0 (select (cmpi .slt (res_main_v1 V0) (broadcastInDim S110 ![] bcast_S_S110 (constantI S_ 32 0#32))) (addi (res_main_v1 V0) (broadcastInDim S110 ![] bcast_S_S110 (constantI S_ 32 22#32))) (res_main_v1 V0))) (ix2 e 0)
      = BitVec.ofNat 32 (N.src e) := by
  pointwise
  simp only [src_at R]
  exact wrap _ (N.src_lt _) _

/-- The words the reference reads its destinations' rows at. -/
theorem dst_idx (e : Fin 110) :
    (broadcastInDim S110x1 ![0] bcast_S110_S110x1_0 (select (cmpi .slt (res_main_v3 V0) (broadcastInDim S110 ![] bcast_S_S110 (constantI S_ 32 0#32))) (addi (res_main_v3 V0) (broadcastInDim S110 ![] bcast_S_S110 (constantI S_ 32 22#32))) (res_main_v3 V0))) (ix2 e 0)
      = BitVec.ofNat 32 (N.dst e) := by
  pointwise
  simp only [dst_at R]
  exact wrap _ (N.dst_lt _) _

/-- The words the reference sums its rows at. -/
theorem dst_sum (e : Fin 110) :
    (broadcastInDim S110x1 ![0] bcast_S110_S110x1_0 (res_main_v3 V0)) (ix2 e 0) = BitVec.ofNat 32 (N.dst e) := by
  pointwise
  exact dst_at R e

set_option maxHeartbeats 4000000 in
/-- The sum of an edge's two scores. -/
theorem pair_score (e : Fin 110) (b : Fin 16) (t : Fin 1000) (h : Fin 4) :
    res_main_v330 V0 (ix4 e b t h) = ((N.aS b (N.src e) t h + N.aD b (N.dst e) t h : ℝ) : EReal) := by
  unfold res_main_v330
  clean_types
  pointwise
  rw [take4 _ _ e b t h _ (N.src_lt e) (src_idx R e), take4 _ _ e b t h _ (N.dst_lt e) (dst_idx R e),
    score_src R, score_dst R, EReal.coe_add]

omit R in
/-- The leaky rectifier, written as a choice by "at least zero". -/
theorem leaky_ge (v : ℝ) : (if 0 ≤ (v : EReal) then (v : EReal) else Ideal.ofBits .f32 0x3E4CCCCD#32 * (v : EReal))
    = ((leaky v : ℝ) : EReal) := by
  rw [bits_slope, leaky]
  by_cases h : 0 ≤ v
  · rw [if_pos h, if_pos (EReal.coe_nonneg.mpr h)]
  · rw [if_neg h, if_neg (fun c => h (EReal.coe_nonneg.mp c)), EReal.coe_mul]

set_option maxHeartbeats 4000000 in
/-- The edges' scores. -/
theorem score (e : Fin 110) (b : Fin 16) (t : Fin 1000) (h : Fin 4) :
    res_main_v335 V0 (ix4 e b t h) = ((N.e b e t h : ℝ) : EReal) := by
  unfold res_main_v335
  clean_types
  pointwise
  rw [pair_score R]
  exact leaky_ge _

set_option maxHeartbeats 4000000 in
/-- The largest score at an edge's destination is a real number. -/
theorem peak (b : Fin 16) (t : Fin 1000) (h : Fin 4) (e : Fin 110) :
    ∃ M : ℝ, res_main_v345 V0 (ix4 ⟨N.dst e, N.dst_lt e⟩ b t h) = ((M : ℝ) : EReal) := by
  unfold res_main_v345
  clean_types
  pointwise
  rw [bits_bot]
  have hbot : (id (constant (F := Ideal) S_ .f32 4286578688#32) ix0 : EReal) = ⊥ := bits_bot
  simp only [score R, dst_at R, hbot]
  refine fold_max_finite _ (fun i => ?_) e ?_
  · unfold Scalar.select
    split
    · exact EReal.coe_ne_top _
    · exact bot_ne_top
  · rw [show IntOp.cmpi .eq (BitVec.ofNat 32 (N.dst e)) (BitVec.ofNat 32 (N.dst e)) = 1#1 by simp [IntOp.cmpi]]
    exact EReal.coe_ne_bot _

set_option maxHeartbeats 4000000 in
/-- The sum of the largest score of a source and the largest of a destination. -/
theorem bound (b : Fin 16) (t : Fin 1000) (h : Fin 4) :
    res_main_v360 V0 (ix3 b t h)
      = ((top 22 (fun n => N.aS b n t h) + top 22 (fun n => N.aD b n t h) : ℝ) : EReal) := by
  unfold res_main_v360
  clean_types
  pointwise
  simp only [bits_bot, score_src R, score_dst R, fold_max_real 22 (fun n => N.aS b n t h),
    fold_max_real 22 (fun n => N.aD b n t h), EReal.coe_add]

set_option maxHeartbeats 4000000 in
/-- The edges' weights, shifted by the largest score at their destination. -/
theorem weight (e : Fin 110) (b : Fin 16) (t : Fin 1000) (h : Fin 4) (M : ℝ)
    (hM : res_main_v345 V0 (ix4 ⟨N.dst e, N.dst_lt e⟩ b t h) = ((M : ℝ) : EReal)) :
    res_main_v354 V0 (ix4 e b t h) = ((Real.exp (N.e b e t h - M) : ℝ) : EReal) := by
  unfold res_main_v354
  clean_types
  pointwise
  rw [take4 _ _ e b t h _ (N.dst_lt e) (dst_idx R e), hM, score R, ← EReal.coe_sub]
  rfl

omit R in
/-- The shift of the softmax cancels, the guard being shifted with it. -/
theorem shift_cancels (c : Fin 110 → Prop) [DecidablePred c] (E : Fin 110 → ℝ) (x M C : ℝ) :
    Real.exp (x - M) / ((∑ j, if c j then Real.exp (E j - M) else 0) + tiny * Real.exp (C - M))
      = Real.exp (x - C) / ((∑ j, if c j then Real.exp (E j - C) else 0) + tiny) := by
  rw [← mul_div_mul_right _ _ (Real.exp_ne_zero (M - C)), add_mul, Finset.sum_mul, mul_assoc, ← Real.exp_add, ← Real.exp_add]
  simp only [ite_mul, zero_mul, ← Real.exp_add, sub_add_sub_cancel, sub_self, Real.exp_zero, mul_one]

set_option maxHeartbeats 4000000 in
/-- An edge's share of its destination. -/
theorem share (e : Fin 110) (b : Fin 16) (t : Fin 1000) (h : Fin 4) :
    Ideal.div (res_main_v354 V0 (ix4 e b t h))
      (Host.gather gather_S22x16x1000x4_S110x1_S110x16x1000x4_123_0_n_n_0_1_11610004 (Host.scatterAdd scatter_S22x16x1000x4_S110x1_S110x16x1000x4_123_0_0_1 (broadcastInDim S22x16x1000x4 ![] bcast_S_S22x16x1000x4 (constant S_ .f32 0x00000000#32)) (broadcastInDim S110x1 ![0] bcast_S110_S110x1_0 (res_main_v3 V0)) (res_main_v354 V0)) (broadcastInDim S110x1 ![0] bcast_S110_S110x1_0 (select (cmpi .slt (res_main_v3 V0) (broadcastInDim S110 ![] bcast_S_S110 (constantI S_ 32 0#32))) (addi (res_main_v3 V0) (broadcastInDim S110 ![] bcast_S_S110 (constantI S_ 32 22#32))) (res_main_v3 V0))) (ix4 e b t h)
      + Host.gather gather_S22x16x1000x4_S110x1_S110x16x1000x4_123_0_n_n_0_1_11610004 (mulf (broadcastInDim S22x16x1000x4 ![] bcast_S_S22x16x1000x4 (constant S_ .f32 0x24E69595#32)) (Host.exp (subf (broadcastInDim S22x16x1000x4 ![0, 1, 2, 3] bcast_S1x16x1000x4_S22x16x1000x4_0_1_2_3 (broadcastInDim S1x16x1000x4 ![1, 2, 3] bcast_S16x1000x4_S1x16x1000x4_1_2_3 (select (cmpf .oge (res_main_v360 V0) (broadcastInDim S16x1000x4 ![] bcast_S_S16x1000x4 (constant S_ .f32 0x00000000#32))) (res_main_v360 V0) (mulf (broadcastInDim S16x1000x4 ![] bcast_S_S16x1000x4 (constant S_ .f32 0x3E4CCCCD#32)) (res_main_v360 V0))))) (res_main_v345 V0)))) (broadcastInDim S110x1 ![0] bcast_S110_S110x1_0 (select (cmpi .slt (res_main_v3 V0) (broadcastInDim S110 ![] bcast_S_S110 (constantI S_ 32 0#32))) (addi (res_main_v3 V0) (broadcastInDim S110 ![] bcast_S_S110 (constantI S_ 32 22#32))) (res_main_v3 V0))) (ix4 e b t h))
      = ((N.al b e t h : ℝ) : EReal) := by
  obtain ⟨M, hM⟩ := peak R b t h e
  rw [take4 _ _ e b t h _ (N.dst_lt e) (dst_idx R e), take4 _ _ e b t h _ (N.dst_lt e) (dst_idx R e),
    gathered4 _ _ _ N.dst N.dst_lt (dst_sum R)]
  pointwise
  rw [hM, bound R, leaky_ge, bits_tiny, weight R e b t h M hM]
  have hs : ∀ j : Fin 110, (if (N.dst e : ℕ) = N.dst j then (show EReal from res_main_v354 V0 (ix4 j b t h)) else (0 : EReal))
      = (((if (N.dst e : ℕ) = N.dst j then Real.exp (N.e b j t h - M) else 0 : ℝ)) : EReal) := by
    intro j
    by_cases hj : N.dst e = N.dst j
    · rw [if_pos hj, if_pos hj]
      refine weight R j b t h M ?_
      have hf : (⟨N.dst j, N.dst_lt j⟩ : Fin 22) = ⟨N.dst e, N.dst_lt e⟩ := Fin.ext hj.symm
      rw [hf]
      exact hM
    · rw [if_neg hj, if_neg hj]; rfl
  simp only [hs]
  rw [coe_fsum, ← EReal.coe_sub, Ideal.exp_coe, ← EReal.coe_mul, ← EReal.coe_add, div_real]
  · rw [shift_cancels]
    rfl
  · refine (add_pos_of_nonneg_of_pos (Finset.sum_nonneg fun j _ => ?_) (mul_pos tiny_pos (Real.exp_pos _))).ne'
    split
    · exact (Real.exp_pos _).le
    · exact le_rfl

set_option maxHeartbeats 4000000 in
/-- The mean over the nodes, normalised. -/
theorem z (b : Fin 16) (o : Fin 32) (t : Fin 1000) :
    res_main_v418 V0 (ix3 b o t) = ((N.z b o t : ℝ) : EReal) := by
  unfold res_main_v418
  clean_types
  pointwise
  have hn : ∀ n : Fin 22, ∀ e : Fin 110, (if (n : ℕ) = N.dst e then ((N.hw b (N.src e) t o * N.al b e t (o / 8) : ℝ) : EReal) else 0)
      = (((if (n : ℕ) = N.dst e then N.hw b (N.src e) t o * N.al b e t (o / 8) else 0 : ℝ)) : EReal) := by
    intro n e
    split <;> rfl
  simp only [gathered5 _ _ _ N.dst N.dst_lt (dst_sum R)]
  pointwise
  simp only [take5 _ _ _ _ _ _ _ _ (N.src_lt _) (src_idx R _), share R, hw R, Nat.div_add_mod', ← EReal.coe_mul, hn]
  rw [root_read, R.gg, div_real _ _ root_pos.ne', R.bg, R.bias, bits_22]
  simp only [coe_fsum, ← EReal.coe_add, zero_add]
  rw [div_real _ _ (by norm_num), ← EReal.coe_mul, ← EReal.coe_add, Net.z]
  congr 3
  rw [Finset.sum_add_distrib, Finset.sum_comm]
  have hc : ∀ y : Fin 110, (∑ x : Fin 22, if (x : ℕ) = N.dst y then N.hw b (N.src y) t o * N.al b y t (o / 8) else 0)
      = N.hw b (N.src y) t o * N.al b y t (o / 8) := by
    intro y
    refine Eq.trans (Finset.sum_congr rfl fun x _ => ?_)
      (sum_at (N.dst y) (N.dst_lt y) (fun _ => N.hw b (N.src y) t o * N.al b y t (o / 8)))
    exact if_congr eq_comm rfl rfl
  simp only [hc, Finset.sum_const, Finset.card_univ, Fintype.card_fin, nsmul_eq_mul]
  rw [Net.agg]
  push_cast
  ring

end Cert.Proof.Ref

end
-- ==== Proof.RefEnd.lean ====
module

public import proofs.«01_k».proof.Proof.RefAtt
public import proofs.«01_k».proof.Proof.Elu

/-! # The reference's end: the rectifier, the pools and the second convolution -/

@[expose] public section

noncomputable section

namespace Cert.Proof.Ref

open Idealize.ShloMosaic Cert.ReferenceIdeal Cert.ReferenceIdeal.Value Cert.ReferenceIdeal.Gen

variable {N : Net} {V0 : Valuation τ sig (Elt Ideal)} (R : RefReads N V0)

include R

set_option maxHeartbeats 4000000 in
/-- The first pool, padded. -/
theorem pooled (b : Fin 16) (o : Fin 32) (s : Fin 140) :
    res_main_v430 V0 (ix3 b o s) = ((N.zp b o s : ℝ) : EReal) := by
  unfold res_main_v430
  clean_types
  pointwise
  rw [Net.zp]
  by_cases h : 7 ≤ (s : ℕ) ∧ (s : ℕ) < 132
  · rw [dif_pos (by omega), if_pos h]
    simp only [z R, elu_cut]
    rw [coe_fsum, bits_8, div_real _ _ (by norm_num)]
    rfl
  · rw [dif_neg (by omega), if_neg h]
    show (((0#32).toInt : ℝ) : EReal) = ((0 : ℝ) : EReal)
    simp

set_option maxHeartbeats 4000000 in
/-- The first ten taps of the second convolution. -/
theorem taps (b : Fin 16) (o : Fin 32) (u : Fin 125) :
    res_main_v491 V0 (ix3 b o u)
      = ((∑ k : Fin 10, ∑ i : Fin 32, N.w3 o i k * N.zp b i (k + u) : ℝ) : EReal) := by
  unfold res_main_v491
  clean_types
  pointwise [dot_S16x32x125_S32x32_S16x125x32_1_1_02_0_n_n]
  simp only [pooled R, R.w3]
  simp [Fin.sum_univ_castSucc (n := 1), Fin.sum_univ_castSucc (n := 2), Fin.sum_univ_castSucc (n := 3),
    Fin.sum_univ_castSucc (n := 4), Fin.sum_univ_castSucc (n := 5), Fin.sum_univ_castSucc (n := 6),
    Fin.sum_univ_castSucc (n := 7), Fin.sum_univ_castSucc (n := 8), Fin.sum_univ_castSucc (n := 9), ← EReal.coe_mul,
    coe_fsum, ← EReal.coe_add, mul_comm]

set_option maxHeartbeats 4000000 in
/-- The second convolution, normalised. -/
theorem c3 (b : Fin 16) (o : Fin 32) (u : Fin 125) :
    res_main_v537 V0 (ix3 b o u) = ((N.c3 b o u : ℝ) : EReal) := by
  unfold res_main_v537
  clean_types
  pointwise [dot_S16x32x125_S32x32_S16x125x32_1_1_02_0_n_n]
  rw [root_read, R.g3, div_real _ _ root_pos.ne', taps R, R.b3, Net.c3]
  simp only [pooled R, R.w3]
  simp [Fin.sum_univ_castSucc (n := 10), Fin.sum_univ_castSucc (n := 11), Fin.sum_univ_castSucc (n := 12),
    Fin.sum_univ_castSucc (n := 13), Fin.sum_univ_castSucc (n := 14), Fin.sum_univ_castSucc (n := 15), ← EReal.coe_mul,
    coe_fsum, ← EReal.coe_add, mul_comm]

set_option maxHeartbeats 4000000 in
/-- The reference's result. -/
theorem res (b : Fin 16) (o : Fin 32) (v : Fin 31) :
    (Host.divf (Host.reduceAdd (shapeCast _ (extractStridedSlice S16x32x124 ![0, 0, 0] (select (cmpf .ogt (res_main_v537 V0) (broadcastInDim S16x32x125 ![] bcast_S_S16x32x125 (constant S_ .f32 0x00000000#32))) (res_main_v537 V0) (Host.expm1 (select (cmpf .ogt (res_main_v537 V0) (broadcastInDim S16x32x125 ![] bcast_S_S16x32x125 (constant S_ .f32 0x00000000#32))) (broadcastInDim S16x32x125 ![] bcast_S_S16x32x125 (id (constant S_ .f32 0x00000000#32))) (res_main_v537 V0)))) slices_S16x32x125_S16x32x124_0_0_0) shapeCasts_S16x32x124_S16x32x31x4) (constant S_ .f32 0x00000000#32) reducesTo_S16x32x31x4_S16x32x31_d3 h_S_) (broadcastInDim S16x32x31 ![] bcast_S_S16x32x31 (constant S_ .f32 0x40800000#32)) :
      FVec Ideal S16x32x31 .f32) (ix3 b o v) = ((N.res b o v : ℝ) : EReal) := by
  pointwise
  simp only [c3 R, elu_cut]
  rw [coe_fsum, bits_4, div_real _ _ (by norm_num)]
  rfl

end Cert.Proof.Ref

end
-- ==== Proof.Usable.lean ====
module

public import proofs.«01_k».proof.Proof.Model
public import proofs.«01_k».proof.Pre_usable
public import Idealize.ShloMosaic.Lib.ReduceAll
public import Idealize.ShloMosaic.Lib.Affine
public import Idealize.ShloMosaic.Lib.WordCmp

/-! # What the precondition gives

Where the stated precondition holds, every argument element is a real number and the graph's indices are below 22: the
arguments are those of a network of real numbers. -/

@[expose] public section
noncomputable section
namespace Cert.Proof
open Idealize.ShloMosaic Cert.Pre_usable

instance : Subsingleton S_.Idx := ⟨fun _ _ => funext fun k => k.elim0⟩

/-- A number whose absolute value is below infinity is real. -/
theorem real_of_below (x : EReal) (h : (FloatOps.cmpf (F := Ideal) (φ := .f32) .olt (FloatOps.hostAbsf (F := Ideal) (φ := .f32) x) (Ideal.ofBits .f32 0x7F800000#32)) = 1#1) :
    x = ((EReal.toReal x : ℝ) : EReal) := by
  have ht : Ideal.ofBits .f32 0x7F800000#32 = ⊤ := by
    norm_num [Ideal.ofBits, Ideal.ieee, BitVec.extractLsb', Nat.shiftRight_eq_div_pow]
  rw [ht] at h
  induction x with
  | coe r => rfl
  | bot => exact absurd h (by simp [FloatOps.cmpf, FloatOps.hostAbsf, Ideal.cmp])
  | top => exact absurd h (by simp [FloatOps.cmpf, FloatOps.hostAbsf, Ideal.cmp])

/-- An array whose every absolute value is below infinity holds real numbers only. -/
theorem real_of_all {s : Shape} {axes : List (Fin s.rank)} (x : FVec Ideal s .f32) (h : s.ReducesTo axes S_) (hb : S_.BroadcastsInDim s (![] : Fin 0 → Fin s.rank)) (hu) (j)
    (e : Host.reduce IntOp.andi (cmpf .olt (Host.absf x) (broadcastInDim s ![] hb (constant S_ .f32 0x7F800000#32))) (constantI S_ 1 1#1) h hu j = 1#1)
    (i : s.Idx) : x i = ((EReal.toReal (x i) : ℝ) : EReal) :=
  real_of_below _ (Host.reduce_andi_all _ _ h hu j e i)

/-- The network whose numbers are the arguments'. -/
def net (a0 : FVec Ideal S16x1x22x1000 .f32) (a1 : FVec Ideal S16x1x1x32 .f32) (a2 a3 : FVec Ideal S16 .f32) (a4 : FVec Ideal S16x32 .f32)
    (a5 a6 : FVec Ideal S4x8 .f32) (a7 a8 a9 : FVec Ideal S32 .f32) (a10 : FVec Ideal S32x32x1x16 .f32) (a11 a12 : FVec Ideal S32 .f32)
    (a13 : IVec S2x110 32) : Net where
  x b n t := EReal.toReal (a0 (ix4 (Fin.ofNat 16 b) 0 (Fin.ofNat 22 n) (Fin.ofNat 1000 t)))
  w1 f k := EReal.toReal (a1 (ix4 (Fin.ofNat 16 f) 0 0 (Fin.ofNat 32 k)))
  g1 f := EReal.toReal (a2 (ix1 (Fin.ofNat 16 f)))
  b1 f := EReal.toReal (a3 (ix1 (Fin.ofNat 16 f)))
  W f o := EReal.toReal (a4 (ix2 (Fin.ofNat 16 f) (Fin.ofNat 32 o)))
  ats h d := EReal.toReal (a5 (ix2 (Fin.ofNat 4 h) (Fin.ofNat 8 d)))
  atd h d := EReal.toReal (a6 (ix2 (Fin.ofNat 4 h) (Fin.ofNat 8 d)))
  bias o := EReal.toReal (a7 (ix1 (Fin.ofNat 32 o)))
  gg o := EReal.toReal (a8 (ix1 (Fin.ofNat 32 o)))
  bg o := EReal.toReal (a9 (ix1 (Fin.ofNat 32 o)))
  w3 o i k := EReal.toReal (a10 (ix4 (Fin.ofNat 32 o) (Fin.ofNat 32 i) 0 (Fin.ofNat 16 k)))
  g3 o := EReal.toReal (a11 (ix1 (Fin.ofNat 32 o)))
  b3 o := EReal.toReal (a12 (ix1 (Fin.ofNat 32 o)))
  src e := (a13 (ix2 0 (Fin.ofNat 110 e))).toNat % 22
  dst e := (a13 (ix2 1 (Fin.ofNat 110 e))).toNat % 22
  src_lt _ := Nat.mod_lt _ (by decide)
  dst_lt _ := Nat.mod_lt _ (by decide)

/-- Where the precondition holds, the arguments read as the numbers of `net`. -/
theorem usable [Cert.Pre_usable.Facts] (a0 a1 a2 a3 a4 a5 a6 a7 a8 a9 a10 a11 a12 a13)
    (h : Cert.Pre_usable.fn (F := Ideal) a0 a1 a2 a3 a4 a5 a6 a7 a8 a9 a10 a11 a12 a13 = fun _ => 1#1) :
    Reads (net a0 a1 a2 a3 a4 a5 a6 a7 a8 a9 a10 a11 a12 a13) a0 a1 a2 a3 a4 a5 a6 a7 a8 a9 a10 a11 a12 a13 := by
  have h := congrFun h (fun k => k.elim0)
  dsimp only [fn, fn_part1, fn_part2, fn_part3, fn_part4] at h
  simp only [andi_apply, IntOp.andi_eq_one] at h
  obtain ⟨⟨⟨⟨⟨⟨⟨⟨⟨⟨⟨⟨⟨hw, h0⟩, h1⟩, h2⟩, h3⟩, h4⟩, h5⟩, h6⟩, h7⟩, h8⟩, h9⟩, h10⟩, h11⟩, h12⟩ := h
  have word : ∀ (i : Fin 2) (e : Fin 110), a13 (ix2 i e) = BitVec.ofNat 32 ((a13 (ix2 i (Fin.ofNat 110 e))).toNat % 22) := fun i e => by
    have hv : IntOp.andi (IntOp.cmpi .sge (a13 (ix2 i e)) 0#32) (IntOp.cmpi .slt (a13 (ix2 i e)) 22#32) = 1#1 :=
      Host.reduce_andi_all _ _ _ _ _ hw (ix2 i e)
    have hl : (a13 (ix2 i e)).toNat < 22 := by
      revert hv
      generalize a13 (ix2 i e) = v
      intro hv
      have hq : IntOp.andi (IntOp.cmpi .sge v 0#32) (IntOp.cmpi .slt v 22#32) = 1#1 ↔ v.toNat < 22 := by word_cmp
      exact hq.1 hv
    rw [Fin.ofNat_val_eq_self, Nat.mod_eq_of_lt hl, BitVec.ofNat_toNat, BitVec.setWidth_eq]
  exact {
    x := fun b z n t => by
      rw [Subsingleton.elim z 0]; simpa only [net, Fin.ofNat_val_eq_self] using real_of_all a0 _ _ _ _ h0 (ix4 b 0 n t)
    w1 := fun f z z' k => by
      rw [Subsingleton.elim z 0, Subsingleton.elim z' 0]; simpa only [net, Fin.ofNat_val_eq_self] using real_of_all a1 _ _ _ _ h1 (ix4 f 0 0 k)
    g1 := fun f => by simpa only [net, Fin.ofNat_val_eq_self] using real_of_all a2 _ _ _ _ h2 (ix1 f)
    b1 := fun f => by simpa only [net, Fin.ofNat_val_eq_self] using real_of_all a3 _ _ _ _ h3 (ix1 f)
    W := fun f o => by simpa only [net, Fin.ofNat_val_eq_self] using real_of_all a4 _ _ _ _ h4 (ix2 f o)
    ats := fun f o => by simpa only [net, Fin.ofNat_val_eq_self] using real_of_all a5 _ _ _ _ h5 (ix2 f o)
    atd := fun f o => by simpa only [net, Fin.ofNat_val_eq_self] using real_of_all a6 _ _ _ _ h6 (ix2 f o)
    bias := fun o => by simpa only [net, Fin.ofNat_val_eq_self] using real_of_all a7 _ _ _ _ h7 (ix1 o)
    gg := fun o => by simpa only [net, Fin.ofNat_val_eq_self] using real_of_all a8 _ _ _ _ h8 (ix1 o)
    bg := fun o => by simpa only [net, Fin.ofNat_val_eq_self] using real_of_all a9 _ _ _ _ h9 (ix1 o)
    w3 := fun o i z k => by
      rw [Subsingleton.elim z 0]; simpa only [net, Fin.ofNat_val_eq_self] using real_of_all a10 _ _ _ _ h10 (ix4 o i 0 k)
    g3 := fun o => by simpa only [net, Fin.ofNat_val_eq_self] using real_of_all a11 _ _ _ _ h11 (ix1 o)
    b3 := fun o => by simpa only [net, Fin.ofNat_val_eq_self] using real_of_all a12 _ _ _ _ h12 (ix1 o)
    src := fun e => word 0 e
    dst := fun e => word 1 e }

end Cert.Proof
end
-- ==== Proof.lean ====
/- The proof that the kernel computes the reference's function: the programs run and leave every semaphore at zero, the
   idealised kernel is the kernel's own program, and over the extended reals both programs end with the numbers of the one
   network of proof/Proof/Model.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_usable
public import proofs.«01_k».proof.Proof.Gen.Kernel.Frame
public import proofs.«01_k».proof.Proof.Gen.KernelIdeal.Value
public import proofs.«01_k».proof.Proof.Gen.ReferenceIdeal.Run
public import proofs.«01_k».proof.Proof.KerEnd
public import proofs.«01_k».proof.Proof.RefEnd
public import proofs.«01_k».proof.Proof.Usable
public import Idealize.ShloMosaic.Adequacy
public import Idealize.ShloMosaic.Init

@[expose] public section

noncomputable section

namespace Cert.Proof

open Idealize.ShloMosaic Idealize.SL.Sem Cert.Kernel

/-- The kernel runs, changes no argument and leaves every semaphore at zero. -/
theorem frame_kernel : Cert.quiescent_Kernel := fun m ρ _ => Cert.Kernel.Gen.frame m ρ

/-- So does the idealised kernel. -/
theorem frame_ideal : Cert.quiescent_KernelIdeal := fun m ρ _ => Cert.KernelIdeal.Gen.frame m ρ

/-- So it does where the precondition holds. -/
theorem frame_ideal_pre : Cert.quiescent_KernelIdeal_pre_usable := fun m ρ _ => frame_ideal m ρ trivial

/-- So does the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So it does where the precondition holds. -/
theorem frame_reference_pre : Cert.quiescent_ReferenceIdeal_pre_usable := fun m ρ _ => frame_reference m ρ trivial

set_option maxHeartbeats 4000000 in
/-- From memories that agree on the arguments, where the precondition holds, the idealised kernel and the reference end with
    equal results. -/
theorem algebraic : Cert.algebraic_KernelIdeal_ReferenceIdeal_pre_usable := by
  intro m g m' g' hp ha
  refine ⟨fun c => (Cert.KernelIdeal.Gen.dats m 0 c).arrAt 14 Cert.KernelIdeal.cfg0.N, Cert.KernelIdeal.Value.run_blocks m g,
    (θ_run Cert.ReferenceIdeal.defs _ _).mono (fun r h c => ⟨(h c).1.trans ?_, (h c).2⟩)
      (Cert.ReferenceIdeal.Value.run (F := Ideal) m' g')⟩
  obtain ⟨e0, e1, e2, e3, e4, e5, e6, e7, e8, e9, e10, e11, e12, e13⟩ := ha c
  have R := usable _ _ _ _ _ _ _ _ _ _ _ _ _ _ (hp c)
  generalize net _ _ _ _ _ _ _ _ _ _ _ _ _ _ = N at R
  have K : Ker.KerReads N m c := R
  have R' : Ref.RefReads N (StableHlo.launchContents m' c) := by
    rw [← e0, ← e1, ← e2, ← e3, ← e4, ← e5, ← e6, ← e7, ← e8, ← e9, ← e10, ← e11, ← e12, ← e13] at R
    exact R
  funext i
  obtain ⟨b, o, v, rfl⟩ : ∃ (b : Fin 16) (o : Fin 32) (v : Fin 31), i = ix3 b o v := ⟨i 0, i 1, i 2, (ix3_eta i).symm⟩
  exact (Ref.res R' b o v).trans (Ker.left K b o v).symm

theorem claim : Cert.Claim :=
  ⟨Cert.Kernel.Gen.facts, Cert.KernelIdeal.Gen.facts, Cert.ReferenceIdeal.Gen.facts, Cert.Pre_usable.Gen.facts, frame_kernel, frame_ideal,
    frame_ideal_pre, frame_reference, frame_reference_pre, trivial, algebraic⟩

end Cert.Proof

end
